-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_two_segments [hPre_finite_and_two_segments : Cert.Pre_finite_and_two_segments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_two_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_two_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_two_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_two_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_two_segments [hPre_finite_and_two_segments : Cert.Pre_finite_and_two_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_two_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_two_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_two_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_two_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_two_segments [hKernelIdeal : Cert.KernelIdeal.Facts] [hPre_finite_and_two_segments : Cert.Pre_finite_and_two_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_two_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_two_segments [hReferenceIdeal : Cert.ReferenceIdeal.Facts] [hPre_finite_and_two_segments : Cert.Pre_finite_and_two_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_two_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_and_two_segments [hKernelIdeal : Cert.KernelIdeal.Facts] [hReferenceIdeal : Cert.ReferenceIdeal.Facts] [hPre_finite_and_two_segments : Cert.Pre_finite_and_two_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_two_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_and_two_segments : Cert.Pre_finite_and_two_segments.Facts),
    quiescent_Kernel (hKernel := hKernel)
    ∧ quiescent_KernelIdeal (hKernelIdeal := hKernelIdeal)
    ∧ quiescent_KernelIdeal_pre_finite_and_two_segments (hKernelIdeal := hKernelIdeal) (hPre_finite_and_two_segments := hPre_finite_and_two_segments)
    ∧ quiescent_ReferenceIdeal (hReferenceIdeal := hReferenceIdeal)
    ∧ quiescent_ReferenceIdeal_pre_finite_and_two_segments (hReferenceIdeal := hReferenceIdeal) (hPre_finite_and_two_segments := hPre_finite_and_two_segments)
    ∧ preserves_Kernel_KernelIdeal
    ∧ algebraic_KernelIdeal_ReferenceIdeal_pre_finite_and_two_segments (hKernelIdeal := hKernelIdeal) (hReferenceIdeal := hReferenceIdeal) (hPre_finite_and_two_segments := hPre_finite_and_two_segments)
-- ==== Pre_finite_and_two_segments.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S4x4096 : S_.BroadcastsInDim S4x4096 (![] : Fin 0 → Fin S4x4096.rank)
  bcast_S_S4096x1024 : S_.BroadcastsInDim S4096x1024 (![] : Fin 0 → Fin S4096x1024.rank)
  bcast_S_S2x1024 : S_.BroadcastsInDim S2x1024 (![] : Fin 0 → Fin S2x1024.rank)

variable [Facts]

def fn {F : FTy → Type} [FloatOps F] (main_arg0 : FVec F S4x4096x1024 .f32) (main_arg1 : IVec S4x4096 32) (main_arg2 : FVec F S4096x1024 .f32) (main_arg3 : FVec F S2x1024 .f32) (main_arg4 : FVec F S1024 .f32) (main_arg5 : FVec F S1024 .f32) : IVec S4x4096x1024 1 × IVec S4x4096 1 × IVec S4096x1024 1 × IVec S2x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 32 := constantI S_ 32 0#32
  let main_v3 : IVec S4x4096 32 := broadcastInDim S4x4096 ![] bcast_S_S4x4096 main_c
  let main_v4 : IVec S4x4096 1 := cmpi .eq main_arg1 main_v3
  let main_c_0 : IVec S_ 32 := constantI S_ 32 1#32
  let main_v5 : IVec S4x4096 32 := broadcastInDim S4x4096 ![] bcast_S_S4x4096 main_c_0
  let main_v6 : IVec S4x4096 1 := cmpi .eq main_arg1 main_v5
  let main_v7 : IVec S4x4096 1 := ori main_v4 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S2x1024 .f32 := Host.absf main_arg3
  let main_cst_2 : FVec F S_ .f32 := constant S_ .f32 0x7F800000#32
  let main_v12 : FVec F S2x1024 .f32 := broadcastInDim S2x1024 ![] bcast_S_S2x1024 main_cst_2
  let main_v13 : IVec S2x1024 1 := cmpf .olt main_v11 main_v12
  (main_v2, main_v7, main_v10, main_v13)
-- ==== Kernel.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S16384x1024 : Shape := ⟨2, ![16384, 1024]⟩
abbrev S16384x1 : Shape := ⟨2, ![16384, 1]⟩
abbrev S1x1024 : Shape := ⟨2, ![1, 1024]⟩
abbrev S4x1024x1024 : Shape := ⟨3, ![4, 1024, 1024]⟩
abbrev S4x1024 : Shape := ⟨2, ![4, 1024]⟩
abbrev S4 : Shape := ⟨1, ![4]⟩
abbrev S_ : Shape := ⟨0, ![]⟩
abbrev S3 : Shape := ⟨1, ![3]⟩
abbrev S1 : Shape := ⟨1, ![1]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 13
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4x4096, .i8⟩
  | .hbm, ⟨7, _⟩ => ⟨S16384x1024, .f32⟩
  | .hbm, ⟨8, _⟩ => ⟨S16384x1, .i8⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S4x4096x1024, .f32⟩
  | .local _ .vmem, ⟨0, _⟩ => ⟨S4x1024x1024, .f32⟩
  | .local _ .vmem, ⟨1, _⟩ => ⟨S4x1024x1024, .f32⟩
  | .local _ .vmem, ⟨2, _⟩ => ⟨S4096x1024, .f32⟩
  | .local _ .vmem, ⟨3, _⟩ => ⟨S16384x1, .i8⟩
  | .local _ .vmem, ⟨4, _⟩ => ⟨S4x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c4_i32_1 : BitVec 32 := 4#32
  let v4 : BitVec 1 := Scalar.cmpi .slt arg0 c4_i32_1
  let v5 : BitVec 32 := Scalar.extui v4
  let c0_i32_2 : BitVec 32 := 0#32
  let v6 : BitVec 1 := Scalar.cmpi .ne v5 c0_i32_2
  v6

def k0_off1 (i : grid0.Coords) : Fin 1 → Nat :=
  let arg0 : BitVec 32 := BitVec.ofNat 32 (i 0).val
  let c4_i32_35 : BitVec 32 := 4#32
  let v92 : BitVec 32 := Scalar.remsi arg0 c4_i32_35
  ![v92.toNat]
def k0_off2 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_3 : BitVec 32 := 0#32
  let c0_i32_4 : BitVec 32 := 0#32
  ![v0.toNat, 0, 0]
def k0_off4 (i : grid0.Coords) : Fin 2 → Nat :=
  let arg0 : BitVec 32 := BitVec.ofNat 32 (i 0).val
  let c1024_i32 : BitVec 32 := 1024#32
  let v7 : BitVec 32 := Scalar.muli arg0 c1024_i32
  let c0_i32_5 : BitVec 32 := 0#32
  ![v7.toNat, 0]
def k0_cond3 (i : grid0.Coords) : BitVec 1 :=
  let arg0 : BitVec 32 := BitVec.ofNat 32 (i 0).val
  let c4_i32_6 : BitVec 32 := 4#32
  let v13 : BitVec 1 := Scalar.cmpi .sge arg0 c4_i32_6
  let v14 : BitVec 32 := Scalar.extui v13
  let c0_i32_7 : BitVec 32 := 0#32
  let v15 : BitVec 1 := Scalar.cmpi .ne v14 c0_i32_7
  v15

def k0_off5 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off6 (i : grid0.Coords) : Fin 2 → Nat :=
  let arg0 : BitVec 32 := BitVec.ofNat 32 (i 0).val
  let c4_i32_35 : BitVec 32 := 4#32
  let v92 : BitVec 32 := Scalar.subi arg0 c4_i32_35
  let c1024_i32_36 : BitVec 32 := 1024#32
  let v93 : BitVec 32 := Scalar.muli v92 c1024_i32_36
  let c0_i32_37 : BitVec 32 := 0#32
  ![v93.toNat, 0]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c0_i32_38 : BitVec 32 := 0#32
  let c0_i32_39 : BitVec 32 := 0#32
  ![v0.toNat, 0, 0]
def k0_off8 (i : grid0.Coords) : Fin 2 → Nat :=
  let arg0 : BitVec 32 := BitVec.ofNat 32 (i 0).val
  let c1024_i32_10 : BitVec 32 := 1024#32
  let v18 : BitVec 32 := Scalar.muli arg0 c1024_i32_10
  let v19 : Index := Scalar.indexCast v18
  let c0 : Index := 0#32
  ![v19.toNat, 0]
def k0_off9 (i : grid0.Coords) : Fin 3 → Nat :=
  let arg0 : BitVec 32 := BitVec.ofNat 32 (i 0).val
  let c4_i32 : BitVec 32 := 4#32
  let v0 : BitVec 32 := Scalar.remsi arg0 c4_i32
  let v24 : Index := Scalar.indexCast v0
  let c0_13 : Index := 0#32
  let c0_14 : Index := 0#32
  ![v24.toNat, 0, 0]
def k0_off10 (i : grid0.Coords) : Fin 2 → Nat :=
  let arg0 : BitVec 32 := BitVec.ofNat 32 (i 0).val
  let c4_i32_8 : BitVec 32 := 4#32
  let v16 : BitVec 32 := Scalar.remsi arg0 c4_i32_8
  let c1024_i32_9 : BitVec 32 := 1024#32
  let v17 : BitVec 32 := Scalar.muli v16 c1024_i32_9
  let v27 : Index := Scalar.indexCast v17
  let c0_15 : Index := 0#32
  ![v27.toNat, 0]
def k0_cond4 (i : grid0.Coords) : BitVec 1 :=
  let arg0 : BitVec 32 := BitVec.ofNat 32 (i 0).val
  let c4_i32_32 : BitVec 32 := 4#32
  let v85 : BitVec 32 := Scalar.addi arg0 c4_i32_32
  let c16_i32 : BitVec 32 := 16#32
  let v86 : BitVec 1 := Scalar.cmpi .slt v85 c16_i32
  let v87 : BitVec 32 := Scalar.extui v86
  let c0_i32_33 : BitVec 32 := 0#32
  let v88 : BitVec 1 := Scalar.cmpi .ne v87 c0_i32_33
  v88

def k0_off11 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off12 (i : grid0.Coords) : Fin 3 → Nat :=
  let arg0 : BitVec 32 := BitVec.ofNat 32 (i 0).val
  let c4_i32 : BitVec 32 := 4#32
  let v0 : BitVec 32 := Scalar.remsi arg0 c4_i32
  let c0_i32_37 : BitVec 32 := 0#32
  let c0_i32_38 : BitVec 32 := 0#32
  ![v0.toNat, 0, 0]
def k0_off13 (i : grid0.Coords) : Fin 2 → Nat :=
  let arg0 : BitVec 32 := BitVec.ofNat 32 (i 0).val
  let c4_i32_35 : BitVec 32 := 4#32
  let v92 : BitVec 32 := Scalar.addi arg0 c4_i32_35
  let c1024_i32_36 : BitVec 32 := 1024#32
  let v93 : BitVec 32 := Scalar.muli v92 c1024_i32_36
  let c0_i32_39 : BitVec 32 := 0#32
  ![v93.toNat, 0]
-- ==== ReferenceIdeal.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4096 : Shape := ⟨1, ![4096]⟩
abbrev S1x4096 : Shape := ⟨2, ![1, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4096, .i32⟩
  | .hbm, ⟨7, _⟩ => ⟨S1x4096, .i32⟩
  | .hbm, ⟨8, _⟩ => ⟨S4x4096, .i32⟩
  | .hbm, ⟨9, _⟩ => ⟨S_, .i32⟩
  | .hbm, ⟨10, _⟩ => ⟨S4x4096, .i32⟩
  | .hbm, ⟨11, _⟩ => ⟨S4x4096, .i1⟩
  | .hbm, ⟨12, _⟩ => ⟨S_, .i32⟩
  | .hbm, ⟨13, _⟩ => ⟨S4x4096, .i32⟩
  | .hbm, ⟨14, _⟩ => ⟨S4x4096, .i32⟩
  | .hbm, ⟨15, _⟩ => ⟨S4x4096, .i32⟩
  | .hbm, ⟨16, _⟩ => ⟨S4x4096x1, .i32⟩
  | .hbm, ⟨17, _⟩ => ⟨S1, .i32⟩
  | .hbm, ⟨18, _⟩ => ⟨S_, .i32⟩
  | .hbm, ⟨19, _⟩ => ⟨S4x4096x1, .i32⟩
  | .hbm, ⟨20, _⟩ => ⟨S4x4096x1, .i1⟩
  | .hbm, ⟨21, _⟩ => ⟨S1x1x1, .i32⟩
  | .hbm, ⟨22, _⟩ => ⟨S4x4096x1, .i32⟩
  | .hbm, ⟨23, _⟩ => ⟨S4x4096x1, .i1⟩
  | .hbm, ⟨24, _⟩ => ⟨S4x4096x1, .i1⟩
  | .hbm, ⟨25, _⟩ => ⟨S_, .i1⟩
  | .hbm, ⟨26, _⟩ => ⟨S4x4096, .i1⟩
  | .hbm, ⟨27, _⟩ => ⟨S4x4096x1024, .f32⟩
  | .hbm, ⟨28, _⟩ => ⟨S4x4096x1024, .i1⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S_, .i32⟩
  | .hbm, ⟨33, _⟩ => ⟨S4x4096, .i32⟩
  | .hbm, ⟨34, _⟩ => ⟨S4x4096, .i1⟩
  | .hbm, ⟨35, _⟩ => ⟨S_, .i32⟩
  | .hbm, ⟨36, _⟩ => ⟨S4x4096, .i32⟩
  | .hbm, ⟨37, _⟩ => ⟨S4x4096, .i32⟩
  | .hbm, ⟨38, _⟩ => ⟨S4x4096, .i32⟩
  | .hbm, ⟨39, _⟩ => ⟨S4x4096x1, .i32⟩
  | .hbm, ⟨40, _⟩ => ⟨S1, .i32⟩
  | .hbm, ⟨41, _⟩ => ⟨S_, .i32⟩
  | .hbm, ⟨42, _⟩ => ⟨S4x4096x1, .i32⟩
  | .hbm, ⟨43, _⟩ => ⟨S4x4096x1, .i1⟩
  | .hbm, ⟨44, _⟩ => ⟨S1x1x1, .i32⟩
  | .hbm, ⟨45, _⟩ => ⟨S4x4096x1, .i32⟩
  | .hbm, ⟨46, _⟩ => ⟨S4x4096x1, .i1⟩
  | .hbm, ⟨47, _⟩ => ⟨S4x4096x1, .i1⟩
  | .hbm, ⟨48, _⟩ => ⟨S_, .i1⟩
  | .hbm, ⟨49, _⟩ => ⟨S4x4096, .i1⟩
  | .hbm, ⟨50, _⟩ => ⟨S4x4096x1024, .f32⟩
  | .hbm, ⟨51, _⟩ => ⟨S4x4096x1024, .i1⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]
-- ==== Proof.Run.Names.lean ====
/- The names the run of the kernel is told in.

   The kernel keeps two rings of four blocks (`in_buf`, `out_buf`), a resident copy of the positional table in four
   parts, the mask column, and a small buffer whose first two rows are the segment table and whose last two are the
   scale and the shift. At grid point `n` it works on block `n` of the sixteen, ring slot `n % 4` and positional part
   `n % 4`. This module names every piece of memory and every semaphore by its index, and shows that the offsets the
   program computes with 32-bit words are those indices. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open Idealize.SL.ProofMode Idealize.SL.Sem

/-! ## Whole buffers -/

abbrev xM : Memref sig .tc .hbm S16384x1024 .f32 := Memref.whole main_call0_v0
abbrev mM : Memref sig .tc .hbm S16384x1 .i8 := Memref.whole main_call0_v1
abbrev posM : Memref sig .tc .hbm S4096x1024 .f32 := Memref.whole main_arg2
abbrev segM : Memref sig .tc .hbm S2x1024 .f32 := Memref.whole main_arg3
abbrev gM : Memref sig .tc .hbm S1x1024 .f32 := Memref.whole main_call0_v2
abbrev bM : Memref sig .tc .hbm S1x1024 .f32 := Memref.whole main_call0_v3
abbrev oM : Memref sig .tc .hbm S16384x1024 .f32 := Memref.whole main_call0_v4
abbrev inM : Memref sig .tc .vmem S4x1024x1024 .f32 := Memref.whole cc0_scratch0
abbrev outM : Memref sig .tc .vmem S4x1024x1024 .f32 := Memref.whole cc0_scratch1
abbrev pbM : Memref sig .tc .vmem S4096x1024 .f32 := Memref.whole cc0_scratch2
abbrev mbM : Memref sig .tc .vmem S16384x1 .i8 := Memref.whole cc0_scratch3
abbrev sgM : Memref sig .tc .vmem S4x1024 .f32 := Memref.whole cc0_scratch4

/-! ## Offsets by index -/

/-- Block `b` of the sixteen: rows `1024 b …`. -/
abbrev blkOff (b : Fin 16) : Fin 2 → Nat := ![b.val * 1024, 0]
theorem blkOff_inb (b : Fin 16) : ∀ a, blkOff b a + S1024x1024.size a ≤ S16384x1024.size a := by
  have := b.isLt; intro a; fin_cases a
  · show b.val * 1024 + 1024 ≤ 16384; omega
  · show 0 + 1024 ≤ 1024; omega
/-- Part `j` of the positional table. -/
abbrev partOff (j : Fin 4) : Fin 2 → Nat := ![j.val * 1024, 0]
theorem partOff_inb (j : Fin 4) : ∀ a, partOff j a + S1024x1024.size a ≤ S4096x1024.size a := by
  have := j.isLt; intro a; fin_cases a
  · show j.val * 1024 + 1024 ≤ 4096; omega
  · show 0 + 1024 ≤ 1024; omega
/-- Slot `s` of a ring. -/
abbrev slotOff (s : Fin 4) : Fin 3 → Nat := ![s.val, 0, 0]
theorem slotOff_inb (s : Fin 4) : ∀ a, slotOff s a + S1x1024x1024.size a ≤ S4x1024x1024.size a := by
  have := s.isLt; intro a; fin_cases a
  · show s.val + 1 ≤ 4; omega
  · show 0 + 1024 ≤ 1024; omega
  · show 0 + 1024 ≤ 1024; omega
/-- Cell `s` of an array of four semaphores. -/
abbrev semOff (s : Fin 4) : Fin 1 → Nat := ![s.val]
theorem semOff_inb (s : Fin 4) : ∀ a, semOff s a + S1.size a ≤ S4.size a := by
  have := s.isLt; intro a; fin_cases a; show s.val + 1 ≤ 4; omega

instance (s : Fin 4) : ClosedOff (slotOff s) := ⟨slotOff s, rfl⟩
instance (b : Fin 16) : ClosedOff (blkOff b) := ⟨blkOff b, rfl⟩
instance (j : Fin 4) : ClosedOff (partOff j) := ⟨partOff j, rfl⟩

/-! ## The pieces -/

/-- Block `b` of the input. -/
def xblk (b : Fin 16) : Memref sig .tc .hbm S1024x1024 .f32 :=
  xM.slice (Rect.unit (s := S16384x1024) (blkOff b) S1024x1024.size (blkOff_inb b)) (fun _ => rfl)
/-- Block `b` of the result. -/
def oblk (b : Fin 16) : Memref sig .tc .hbm S1024x1024 .f32 :=
  oM.slice (Rect.unit (s := S16384x1024) (blkOff b) S1024x1024.size (blkOff_inb b)) (fun _ => rfl)
/-- Part `j` of the positional table. -/
def pchk (j : Fin 4) : Memref sig .tc .hbm S1024x1024 .f32 :=
  posM.slice (Rect.unit (s := S4096x1024) (partOff j) S1024x1024.size (partOff_inb j)) (fun _ => rfl)
/-- Part `j` of the resident copy of the positional table. -/
def pbuf (j : Fin 4) : Memref sig .tc .vmem S1024x1024 .f32 :=
  pbM.slice (Rect.unit (s := S4096x1024) (partOff j) S1024x1024.size (partOff_inb j)) (fun _ => rfl)
/-- Slot `s` of the input ring. -/
def islot (s : Fin 4) : Memref sig .tc .vmem S1024x1024 .f32 :=
  (inM.slice (Rect.unit (s := S4x1024x1024) (slotOff s) S1x1024x1024.size (slotOff_inb s)) (fun _ => rfl)).squeeze S1024x1024 squeezes_S1x1024x1024_S1024x1024
/-- Slot `s` of the output ring. -/
def oslot (s : Fin 4) : Memref sig .tc .vmem S1024x1024 .f32 :=
  (outM.slice (Rect.unit (s := S4x1024x1024) (slotOff s) S1x1024x1024.size (slotOff_inb s)) (fun _ => rfl)).squeeze S1024x1024 squeezes_S1x1024x1024_S1024x1024
/-- The segment table's rows of the small buffer. -/
def sgS : Memref sig .tc .vmem S2x1024 .f32 :=
  sgM.slice (Rect.unit (s := S4x1024) ![0, 0] S2x1024.size inb_S4x1024_S2x1024_0_0) (fun _ => rfl)
/-- The scale's row. -/
def sgG : Memref sig .tc .vmem S1x1024 .f32 :=
  sgM.slice (Rect.unit (s := S4x1024) ![2, 0] S1x1024.size inb_S4x1024_S1x1024_2_0) (fun _ => rfl)
/-- The shift's row. -/
def sgB : Memref sig .tc .vmem S1x1024 .f32 :=
  sgM.slice (Rect.unit (s := S4x1024) ![3, 0] S1x1024.size inb_S4x1024_S1x1024_3_0) (fun _ => rfl)

/-- The input ring's semaphore for slot `s`. -/
def icell (s : Fin 4) : DmaSems sig S_ := (cc0_scratch5.slice (Rect.unit (s := S4) (semOff s) S1.size (semOff_inb s))).squeeze S_ squeezes_S1_S_
/-- The output ring's semaphore for slot `s`. -/
def ocell (s : Fin 4) : DmaSems sig S_ := (cc0_scratch6.slice (Rect.unit (s := S4) (semOff s) S1.size (semOff_inb s))).squeeze S_ squeezes_S1_S_
/-- The positional table's semaphore for part `s`. -/
def pcell (s : Fin 4) : DmaSems sig S_ := (cc0_scratch7.slice (Rect.unit (s := S4) (semOff s) S1.size (semOff_inb s))).squeeze S_ squeezes_S1_S_
/-- The small buffer's three semaphores. -/
def sgc0 : DmaSems sig S_ := (cc0_scratch9.slice (Rect.unit (s := S3) ![0] S1.size inb_S3_S1_0)).squeeze S_ squeezes_S1_S_
def sgc1 : DmaSems sig S_ := (cc0_scratch9.slice (Rect.unit (s := S3) ![1] S1.size inb_S3_S1_1)).squeeze S_ squeezes_S1_S_
def sgc2 : DmaSems sig S_ := (cc0_scratch9.slice (Rect.unit (s := S3) ![2] S1.size inb_S3_S1_2)).squeeze S_ squeezes_S1_S_

/-! ## The words of the program in closed form -/

/-- A statement about a grid point holds at every coordinate when it holds at each of the sixteen. -/
theorem coords_cases {p : grid0.Coords → Prop} (h : ∀ n : Fin 16, p (fun a => ⟨n.val, by fin_cases a; exact n.isLt⟩)) (i : grid0.Coords) : p i := by
  have e : i = (fun a => ⟨(i 0).val, by fin_cases a; exact (i 0).isLt⟩) := by
    funext a; fin_cases a; rfl
  rw [e]; exact h ⟨(i 0).val, (i 0).isLt⟩

variable (i : grid0.Coords)

/-- The point's number. -/
abbrev pt : ℕ := (i 0).val
theorem pt_lt : pt i < 16 := (i 0).isLt

theorem off1_eq : k0_off1 i = semOff (Ring.sl 4 (pt i)) := coords_cases (p := fun i => k0_off1 i = semOff (Ring.sl 4 (pt i))) (by decide +kernel) i
theorem off2_eq : k0_off2 i = semOff (Ring.sl 4 (pt i)) := coords_cases (p := fun i => k0_off2 i = semOff (Ring.sl 4 (pt i))) (by decide +kernel) i
theorem off3_eq : k0_off3 i = slotOff (Ring.sl 4 (pt i)) := coords_cases (p := fun i => k0_off3 i = slotOff (Ring.sl 4 (pt i))) (by decide +kernel) i
theorem off4_eq : k0_off4 i = blkOff (Ring.bk 16 (pt i)) := coords_cases (p := fun i => k0_off4 i = blkOff (Ring.bk 16 (pt i))) (by decide +kernel) i
theorem off5_eq : k0_off5 i = semOff (Ring.sl 4 (pt i)) := coords_cases (p := fun i => k0_off5 i = semOff (Ring.sl 4 (pt i))) (by decide +kernel) i
theorem off6_eq (h : 4 ≤ pt i) : k0_off6 i = blkOff (Ring.bk 16 (pt i - 4)) :=
  coords_cases (p := fun i => 4 ≤ pt i → k0_off6 i = blkOff (Ring.bk 16 (pt i - 4))) (by decide +kernel) i h
theorem off7_eq : k0_off7 i = slotOff (Ring.sl 4 (pt i)) := coords_cases (p := fun i => k0_off7 i = slotOff (Ring.sl 4 (pt i))) (by decide +kernel) i
theorem off8_eq : k0_off8 i = ![pt i * 1024, 0] := coords_cases (p := fun i => k0_off8 i = ![pt i * 1024, 0]) (by decide +kernel) i
theorem off9_eq : k0_off9 i = slotOff (Ring.sl 4 (pt i)) := coords_cases (p := fun i => k0_off9 i = slotOff (Ring.sl 4 (pt i))) (by decide +kernel) i
theorem off10_eq : k0_off10 i = partOff (Ring.sl 4 (pt i)) := coords_cases (p := fun i => k0_off10 i = partOff (Ring.sl 4 (pt i))) (by decide +kernel) i
theorem off11_eq : k0_off11 i = semOff (Ring.sl 4 (pt i)) := coords_cases (p := fun i => k0_off11 i = semOff (Ring.sl 4 (pt i))) (by decide +kernel) i
theorem off12_eq : k0_off12 i = slotOff (Ring.sl 4 (pt i)) := coords_cases (p := fun i => k0_off12 i = slotOff (Ring.sl 4 (pt i))) (by decide +kernel) i
theorem off13_eq (h : pt i + 4 < 16) : k0_off13 i = blkOff (Ring.bk 16 (pt i + 4)) :=
  coords_cases (p := fun i => pt i + 4 < 16 → k0_off13 i = blkOff (Ring.bk 16 (pt i + 4))) (by decide +kernel) i h

theorem cond2_pos (h : pt i < 4) : k0_cond2 i = 1#1 := coords_cases (p := fun i => pt i < 4 → k0_cond2 i = 1#1) (by decide +kernel) i h
theorem cond2_neg (h : 4 ≤ pt i) : ¬ k0_cond2 i = 1#1 := coords_cases (p := fun i => 4 ≤ pt i → ¬ k0_cond2 i = 1#1) (by decide +kernel) i h
theorem cond3_pos (h : 4 ≤ pt i) : k0_cond3 i = 1#1 := coords_cases (p := fun i => 4 ≤ pt i → k0_cond3 i = 1#1) (by decide +kernel) i h
theorem cond3_neg (h : pt i < 4) : ¬ k0_cond3 i = 1#1 := coords_cases (p := fun i => pt i < 4 → ¬ k0_cond3 i = 1#1) (by decide +kernel) i h
theorem cond4_pos (h : pt i + 4 < 16) : k0_cond4 i = 1#1 := coords_cases (p := fun i => pt i + 4 < 16 → k0_cond4 i = 1#1) (by decide +kernel) i h
theorem cond4_neg (h : ¬ pt i + 4 < 16) : ¬ k0_cond4 i = 1#1 := coords_cases (p := fun i => ¬ pt i + 4 < 16 → ¬ k0_cond4 i = 1#1) (by decide +kernel) i h

/-- The condition of the start-up branch, as the program computes it. -/
abbrev firstW : BitVec 1 := Scalar.cmpi .ne (Scalar.extui (Scalar.cmpi .eq (BitVec.ofNat 32 (i 0).val) 0#32) : BitVec 32) 0#32
/-- The condition of the final branch, as the program computes it. -/
abbrev lastW : BitVec 1 := Scalar.cmpi .ne (Scalar.extui (Scalar.cmpi .eq (BitVec.ofNat 32 (i 0).val) 15#32) : BitVec 32) 0#32
theorem first_pos (h : pt i = 0) : firstW i = 1#1 := coords_cases (p := fun i => pt i = 0 → firstW i = 1#1) (by decide +kernel) i h
theorem first_neg (h : ¬ pt i = 0) : ¬ firstW i = 1#1 := coords_cases (p := fun i => ¬ pt i = 0 → ¬ firstW i = 1#1) (by decide +kernel) i h
theorem last_pos (h : pt i = 15) : lastW i = 1#1 := coords_cases (p := fun i => pt i = 15 → lastW i = 1#1) (by decide +kernel) i h
theorem last_neg (h : ¬ pt i = 15) : ¬ lastW i = 1#1 := coords_cases (p := fun i => ¬ pt i = 15 → ¬ lastW i = 1#1) (by decide +kernel) i h

instance : ClosedOff (k0_off9 i) := ⟨slotOff (Ring.sl 4 (pt i)), off9_eq i⟩
instance : ClosedOff (k0_off10 i) := ⟨partOff (Ring.sl 4 (pt i)), off10_eq i⟩
instance : ClosedOff (k0_off8 i) := ⟨![pt i * 1024, 0], off8_eq i⟩

/-! ## The program's slices are the named pieces -/

private theorem icell_congr {off : Fin 1 → Nat} {s : Fin 4} (e : off = semOff s) (hh) :
    (cc0_scratch5.slice (Rect.unit (s := S4) off S1.size hh)).squeeze S_ squeezes_S1_S_ = icell s :=
  congrArg (fun A : DmaSems sig S1 => A.squeeze S_ squeezes_S1_S_) (SemArray.slice_unit_congr _ e _ _)
private theorem ocell_congr {off : Fin 1 → Nat} {s : Fin 4} (e : off = semOff s) (hh) :
    (cc0_scratch6.slice (Rect.unit (s := S4) off S1.size hh)).squeeze S_ squeezes_S1_S_ = ocell s :=
  congrArg (fun A : DmaSems sig S1 => A.squeeze S_ squeezes_S1_S_) (SemArray.slice_unit_congr _ e _ _)
private theorem pcell_congr {off : Fin 1 → Nat} {s : Fin 4} (e : off = semOff s) (hh) :
    (cc0_scratch7.slice (Rect.unit (s := S4) off S1.size hh)).squeeze S_ squeezes_S1_S_ = pcell s :=
  congrArg (fun A : DmaSems sig S1 => A.squeeze S_ squeezes_S1_S_) (SemArray.slice_unit_congr _ e _ _)
private theorem islot_congr {off : Fin 3 → Nat} {s : Fin 4} (e : off = slotOff s) (hh hs) :
    (inM.slice (Rect.unit (s := S4x1024x1024) off S1x1024x1024.size hh) hs).squeeze S1024x1024 squeezes_S1x1024x1024_S1024x1024 = islot s :=
  congrArg (fun M : Memref sig .tc .vmem S1x1024x1024 .f32 => M.squeeze S1024x1024 squeezes_S1x1024x1024_S1024x1024) (Memref.slice_unit_congr _ e _ _ _ _)
private theorem oslot_congr {off : Fin 3 → Nat} {s : Fin 4} (e : off = slotOff s) (hh hs) :
    (outM.slice (Rect.unit (s := S4x1024x1024) off S1x1024x1024.size hh) hs).squeeze S1024x1024 squeezes_S1x1024x1024_S1024x1024 = oslot s :=
  congrArg (fun M : Memref sig .tc .vmem S1x1024x1024 .f32 => M.squeeze S1024x1024 squeezes_S1x1024x1024_S1024x1024) (Memref.slice_unit_congr _ e _ _ _ _)
private theorem xblk_congr {off : Fin 2 → Nat} {b : Fin 16} (e : off = blkOff b) (hh hs) :
    xM.slice (Rect.unit (s := S16384x1024) off S1024x1024.size hh) hs = xblk b := by subst e; rfl
private theorem oblk_congr {off : Fin 2 → Nat} {b : Fin 16} (e : off = blkOff b) (hh hs) :
    oM.slice (Rect.unit (s := S16384x1024) off S1024x1024.size hh) hs = oblk b := by subst e; rfl
private theorem pchk_congr {off : Fin 2 → Nat} {b : Fin 4} (e : off = partOff b) (hh hs) :
    posM.slice (Rect.unit (s := S4096x1024) off S1024x1024.size hh) hs = pchk b := by subst e; rfl
private theorem pbuf_congr {off : Fin 2 → Nat} {b : Fin 4} (e : off = partOff b) (hh hs) :
    pbM.slice (Rect.unit (s := S4096x1024) off S1024x1024.size hh) hs = pbuf b := by subst e; rfl

/- Literal offsets: start-up and drain. -/
@[sl_canon] theorem icell0 (hh) : (cc0_scratch5.slice (Rect.unit (s := S4) ![0] S1.size hh)).squeeze S_ squeezes_S1_S_ = icell 0 := icell_congr (by decide) _
@[sl_canon] theorem icell1 (hh) : (cc0_scratch5.slice (Rect.unit (s := S4) ![1] S1.size hh)).squeeze S_ squeezes_S1_S_ = icell 1 := icell_congr (by decide) _
@[sl_canon] theorem icell2 (hh) : (cc0_scratch5.slice (Rect.unit (s := S4) ![2] S1.size hh)).squeeze S_ squeezes_S1_S_ = icell 2 := icell_congr (by decide) _
@[sl_canon] theorem icell3 (hh) : (cc0_scratch5.slice (Rect.unit (s := S4) ![3] S1.size hh)).squeeze S_ squeezes_S1_S_ = icell 3 := icell_congr (by decide) _
@[sl_canon] theorem ocell0 (hh) : (cc0_scratch6.slice (Rect.unit (s := S4) ![0] S1.size hh)).squeeze S_ squeezes_S1_S_ = ocell 0 := ocell_congr (by decide) _
@[sl_canon] theorem ocell1 (hh) : (cc0_scratch6.slice (Rect.unit (s := S4) ![1] S1.size hh)).squeeze S_ squeezes_S1_S_ = ocell 1 := ocell_congr (by decide) _
@[sl_canon] theorem ocell2 (hh) : (cc0_scratch6.slice (Rect.unit (s := S4) ![2] S1.size hh)).squeeze S_ squeezes_S1_S_ = ocell 2 := ocell_congr (by decide) _
@[sl_canon] theorem ocell3 (hh) : (cc0_scratch6.slice (Rect.unit (s := S4) ![3] S1.size hh)).squeeze S_ squeezes_S1_S_ = ocell 3 := ocell_congr (by decide) _
@[sl_canon] theorem pcell0 (hh) : (cc0_scratch7.slice (Rect.unit (s := S4) ![0] S1.size hh)).squeeze S_ squeezes_S1_S_ = pcell 0 := pcell_congr (by decide) _
@[sl_canon] theorem pcell1 (hh) : (cc0_scratch7.slice (Rect.unit (s := S4) ![1] S1.size hh)).squeeze S_ squeezes_S1_S_ = pcell 1 := pcell_congr (by decide) _
@[sl_canon] theorem pcell2 (hh) : (cc0_scratch7.slice (Rect.unit (s := S4) ![2] S1.size hh)).squeeze S_ squeezes_S1_S_ = pcell 2 := pcell_congr (by decide) _
@[sl_canon] theorem pcell3 (hh) : (cc0_scratch7.slice (Rect.unit (s := S4) ![3] S1.size hh)).squeeze S_ squeezes_S1_S_ = pcell 3 := pcell_congr (by decide) _
@[sl_canon] theorem sgc0L (hh) : (cc0_scratch9.slice (Rect.unit (s := S3) ![0] S1.size hh)).squeeze S_ squeezes_S1_S_ = sgc0 := rfl
@[sl_canon] theorem sgc1L (hh) : (cc0_scratch9.slice (Rect.unit (s := S3) ![1] S1.size hh)).squeeze S_ squeezes_S1_S_ = sgc1 := rfl
@[sl_canon] theorem sgc2L (hh) : (cc0_scratch9.slice (Rect.unit (s := S3) ![2] S1.size hh)).squeeze S_ squeezes_S1_S_ = sgc2 := rfl
@[sl_canon] theorem islot0 (hh hs) : (inM.slice (Rect.unit (s := S4x1024x1024) ![0, 0, 0] S1x1024x1024.size hh) hs).squeeze S1024x1024 squeezes_S1x1024x1024_S1024x1024 = islot 0 := islot_congr (by decide) _ _
@[sl_canon] theorem islot1 (hh hs) : (inM.slice (Rect.unit (s := S4x1024x1024) ![1, 0, 0] S1x1024x1024.size hh) hs).squeeze S1024x1024 squeezes_S1x1024x1024_S1024x1024 = islot 1 := islot_congr (by decide) _ _
@[sl_canon] theorem islot2 (hh hs) : (inM.slice (Rect.unit (s := S4x1024x1024) ![2, 0, 0] S1x1024x1024.size hh) hs).squeeze S1024x1024 squeezes_S1x1024x1024_S1024x1024 = islot 2 := islot_congr (by decide) _ _
@[sl_canon] theorem islot3 (hh hs) : (inM.slice (Rect.unit (s := S4x1024x1024) ![3, 0, 0] S1x1024x1024.size hh) hs).squeeze S1024x1024 squeezes_S1x1024x1024_S1024x1024 = islot 3 := islot_congr (by decide) _ _
@[sl_canon] theorem oslot0 (hh hs) : (outM.slice (Rect.unit (s := S4x1024x1024) ![0, 0, 0] S1x1024x1024.size hh) hs).squeeze S1024x1024 squeezes_S1x1024x1024_S1024x1024 = oslot 0 := oslot_congr (by decide) _ _
@[sl_canon] theorem oslot1 (hh hs) : (outM.slice (Rect.unit (s := S4x1024x1024) ![1, 0, 0] S1x1024x1024.size hh) hs).squeeze S1024x1024 squeezes_S1x1024x1024_S1024x1024 = oslot 1 := oslot_congr (by decide) _ _
@[sl_canon] theorem oslot2 (hh hs) : (outM.slice (Rect.unit (s := S4x1024x1024) ![2, 0, 0] S1x1024x1024.size hh) hs).squeeze S1024x1024 squeezes_S1x1024x1024_S1024x1024 = oslot 2 := oslot_congr (by decide) _ _
@[sl_canon] theorem oslot3 (hh hs) : (outM.slice (Rect.unit (s := S4x1024x1024) ![3, 0, 0] S1x1024x1024.size hh) hs).squeeze S1024x1024 squeezes_S1x1024x1024_S1024x1024 = oslot 3 := oslot_congr (by decide) _ _
@[sl_canon] theorem xblk0 (hh hs) : xM.slice (Rect.unit (s := S16384x1024) ![0, 0] S1024x1024.size hh) hs = xblk 0 := xblk_congr (by decide) _ _
@[sl_canon] theorem xblk1 (hh hs) : xM.slice (Rect.unit (s := S16384x1024) ![1024, 0] S1024x1024.size hh) hs = xblk 1 := xblk_congr (by decide) _ _
@[sl_canon] theorem xblk2 (hh hs) : xM.slice (Rect.unit (s := S16384x1024) ![2048, 0] S1024x1024.size hh) hs = xblk 2 := xblk_congr (by decide) _ _
@[sl_canon] theorem xblk3 (hh hs) : xM.slice (Rect.unit (s := S16384x1024) ![3072, 0] S1024x1024.size hh) hs = xblk 3 := xblk_congr (by decide) _ _
@[sl_canon] theorem oblk12 (hh hs) : oM.slice (Rect.unit (s := S16384x1024) ![12288, 0] S1024x1024.size hh) hs = oblk 12 := oblk_congr (by decide) _ _
@[sl_canon] theorem oblk13 (hh hs) : oM.slice (Rect.unit (s := S16384x1024) ![13312, 0] S1024x1024.size hh) hs = oblk 13 := oblk_congr (by decide) _ _
@[sl_canon] theorem oblk14 (hh hs) : oM.slice (Rect.unit (s := S16384x1024) ![14336, 0] S1024x1024.size hh) hs = oblk 14 := oblk_congr (by decide) _ _
@[sl_canon] theorem oblk15 (hh hs) : oM.slice (Rect.unit (s := S16384x1024) ![15360, 0] S1024x1024.size hh) hs = oblk 15 := oblk_congr (by decide) _ _
@[sl_canon] theorem pchk0 (hh hs) : posM.slice (Rect.unit (s := S4096x1024) ![0, 0] S1024x1024.size hh) hs = pchk 0 := pchk_congr (by decide) _ _
@[sl_canon] theorem pchk1 (hh hs) : posM.slice (Rect.unit (s := S4096x1024) ![1024, 0] S1024x1024.size hh) hs = pchk 1 := pchk_congr (by decide) _ _
@[sl_canon] theorem pchk2 (hh hs) : posM.slice (Rect.unit (s := S4096x1024) ![2048, 0] S1024x1024.size hh) hs = pchk 2 := pchk_congr (by decide) _ _
@[sl_canon] theorem pchk3 (hh hs) : posM.slice (Rect.unit (s := S4096x1024) ![3072, 0] S1024x1024.size hh) hs = pchk 3 := pchk_congr (by decide) _ _
@[sl_canon] theorem pbuf0 (hh hs) : pbM.slice (Rect.unit (s := S4096x1024) ![0, 0] S1024x1024.size hh) hs = pbuf 0 := pbuf_congr (by decide) _ _
@[sl_canon] theorem pbuf1 (hh hs) : pbM.slice (Rect.unit (s := S4096x1024) ![1024, 0] S1024x1024.size hh) hs = pbuf 1 := pbuf_congr (by decide) _ _
@[sl_canon] theorem pbuf2 (hh hs) : pbM.slice (Rect.unit (s := S4096x1024) ![2048, 0] S1024x1024.size hh) hs = pbuf 2 := pbuf_congr (by decide) _ _
@[sl_canon] theorem pbuf3 (hh hs) : pbM.slice (Rect.unit (s := S4096x1024) ![3072, 0] S1024x1024.size hh) hs = pbuf 3 := pbuf_congr (by decide) _ _
@[sl_canon] theorem sgSL (hh hs) : sgM.slice (Rect.unit (s := S4x1024) ![0, 0] S2x1024.size hh) hs = sgS := rfl
@[sl_canon] theorem sgGL (hh hs) : sgM.slice (Rect.unit (s := S4x1024) ![2, 0] S1x1024.size hh) hs = sgG := rfl
@[sl_canon] theorem sgBL (hh hs) : sgM.slice (Rect.unit (s := S4x1024) ![3, 0] S1x1024.size hh) hs = sgB := rfl

/- Offsets computed at the point. -/
@[sl_canon] theorem pcellN (hh) : (cc0_scratch7.slice (Rect.unit (s := S4) (k0_off1 i) S1.size hh)).squeeze S_ squeezes_S1_S_ = pcell (Ring.sl 4 (pt i)) := pcell_congr (off1_eq i) _
@[sl_canon] theorem icellN (hh) : (cc0_scratch5.slice (Rect.unit (s := S4) (k0_off2 i) S1.size hh)).squeeze S_ squeezes_S1_S_ = icell (Ring.sl 4 (pt i)) := icell_congr (off2_eq i) _
@[sl_canon] theorem ocellN (hh) : (cc0_scratch6.slice (Rect.unit (s := S4) (k0_off2 i) S1.size hh)).squeeze S_ squeezes_S1_S_ = ocell (Ring.sl 4 (pt i)) := ocell_congr (off2_eq i) _
@[sl_canon] theorem ocellN5 (hh) : (cc0_scratch6.slice (Rect.unit (s := S4) (k0_off5 i) S1.size hh)).squeeze S_ squeezes_S1_S_ = ocell (Ring.sl 4 (pt i)) := ocell_congr (off5_eq i) _
@[sl_canon] theorem icellN11 (hh) : (cc0_scratch5.slice (Rect.unit (s := S4) (k0_off11 i) S1.size hh)).squeeze S_ squeezes_S1_S_ = icell (Ring.sl 4 (pt i)) := icell_congr (off11_eq i) _
@[sl_canon] theorem islotN (hh hs) : (inM.slice (Rect.unit (s := S4x1024x1024) (k0_off3 i) S1x1024x1024.size hh) hs).squeeze S1024x1024 squeezes_S1x1024x1024_S1024x1024 = islot (Ring.sl 4 (pt i)) := islot_congr (off3_eq i) _ _
@[sl_canon] theorem islotN12 (hh hs) : (inM.slice (Rect.unit (s := S4x1024x1024) (k0_off12 i) S1x1024x1024.size hh) hs).squeeze S1024x1024 squeezes_S1x1024x1024_S1024x1024 = islot (Ring.sl 4 (pt i)) := islot_congr (off12_eq i) _ _
@[sl_canon] theorem oslotN (hh hs) : (outM.slice (Rect.unit (s := S4x1024x1024) (k0_off3 i) S1x1024x1024.size hh) hs).squeeze S1024x1024 squeezes_S1x1024x1024_S1024x1024 = oslot (Ring.sl 4 (pt i)) := oslot_congr (off3_eq i) _ _
@[sl_canon] theorem oslotN7 (hh hs) : (outM.slice (Rect.unit (s := S4x1024x1024) (k0_off7 i) S1x1024x1024.size hh) hs).squeeze S1024x1024 squeezes_S1x1024x1024_S1024x1024 = oslot (Ring.sl 4 (pt i)) := oslot_congr (off7_eq i) _ _
@[sl_canon] theorem xblkN (hh hs) : xM.slice (Rect.unit (s := S16384x1024) (k0_off4 i) S1024x1024.size hh) hs = xblk (Ring.bk 16 (pt i)) := xblk_congr (off4_eq i) _ _
@[sl_canon] theorem oblkN (hh hs) : oM.slice (Rect.unit (s := S16384x1024) (k0_off4 i) S1024x1024.size hh) hs = oblk (Ring.bk 16 (pt i)) := oblk_congr (off4_eq i) _ _
@[sl_canon] theorem oblkP (h : 4 ≤ pt i) (hh hs) : oM.slice (Rect.unit (s := S16384x1024) (k0_off6 i) S1024x1024.size hh) hs = oblk (Ring.bk 16 (pt i - 4)) := oblk_congr (off6_eq i h) _ _
@[sl_canon] theorem xblkS (h : pt i + 4 < 16) (hh hs) : xM.slice (Rect.unit (s := S16384x1024) (k0_off13 i) S1024x1024.size hh) hs = xblk (Ring.bk 16 (pt i + 4)) := xblk_congr (off13_eq i h) _ _

end Cert.Kernel.Run

end
-- ==== Proof.Run.Pieces.lean ====
/- What the core holds while the kernel runs, piece by piece: a block at home in its array, a slot, a semaphore at
   zero, a transfer in flight with what it will deliver. -/
module

public import proofs.«01_k».proof.Proof.Run.Names

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user resources: the pipeline library's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

/-- A memref's contents on core `c`. -/
abbrev Ct (F : FTy → Type) {sp : Space} {s : Shape} {e : EltTy} (M : Memref sig .tc sp s e) (c : Dev nD) : Type := Buf (Elt F) (M.view.loc (c : Thread nD τ))

/-- A memref held on its own elements, at contents `f`. -/
abbrev held {sp : Space} {s : Shape} {e : EltTy} (c : Dev nD) (M : Memref sig .tc sp s e) (f : Ct F M c) : sProp 𝕄 :=
  M.view.loc (c : Thread nD τ) ↦[M.view.set]{fullShare} f

/-- A semaphore cell at zero. -/
abbrev cellZ (c : Dev nD) (s : DmaSems sig S_) : sProp 𝕄 := semVal ((c : Thread nD τ), SemLoc.dma s.sem) 0

/-- Contents `f` with the values `v` written over the whole of `M`. -/
abbrev put {sp : Space} {s : Shape} {e : EltTy} (c : Dev nD) (M : Memref sig .tc sp s e) (f : Ct F M c) (v : s.Idx → Elt F e) : Ct F M c :=
  M.view.writes (Elt F) f [⟨Rect.whole s, v⟩]

/-- A transfer of amount `N` in flight on the cell `s` from `A` (contents `g`) to `B`, delivering `B` written with
    `A`'s values and `A` back. -/
abbrev flying {sp sp' : Space} {sh : Shape} {e : EltTy} (c : Dev nD) (s : DmaSems sig S_) (N : ℕ)
    (A : Memref sig .tc sp sh e) (g : Ct F A c) (B : Memref sig .tc sp' sh e) (f : Ct F B c) : sProp 𝕄 :=
  Transfers.Flight countersEmb (c : Thread nD τ) (SemLoc.dma s.sem) () N
    iprop(held c B (put c B f (ReadAs.same.apply (A.view.read (Elt F) g))) ∗ held c A g)

/-- Block `b` of the input at home. -/
abbrev homeX (c : Dev nD) (fX : Ct F xM c) (b : Fin 16) : sProp 𝕄 := held c (xblk b) fX
/-- Block `b` of the input on its way into slot `s` of the input ring. -/
abbrev flyX (c : Dev nD) (fX : Ct F xM c) (s : Fin 4) (b : Fin 16) (f : Ct F inM c) : sProp 𝕄 := flying c (icell s) 131072 (xblk b) fX (islot s) f
/-- Slot `s` of the input ring, held. -/
abbrev heldI (c : Dev nD) (s : Fin 4) (f : Ct F inM c) : sProp 𝕄 := held c (islot s) f
/-- Slot `s` of the output ring, held. -/
abbrev heldO (c : Dev nD) (s : Fin 4) (f : Ct F outM c) : sProp 𝕄 := held c (oslot s) f
/-- Block `b` of the result, held. -/
abbrev homeO (c : Dev nD) (b : Fin 16) (f : Ct F oM c) : sProp 𝕄 := held c (oblk b) f
/-- Slot `s` of the output ring (contents `g`) on its way into block `b` of the result. -/
abbrev flyO (c : Dev nD) (s : Fin 4) (g : Ct F outM c) (b : Fin 16) (f : Ct F oM c) : sProp 𝕄 := flying c (ocell s) 131072 (oslot s) g (oblk b) f
/-- Part `j` of the positional table at home. -/
abbrev homeP (c : Dev nD) (fP : Ct F posM c) (j : Fin 4) : sProp 𝕄 := held c (pchk j) fP
/-- Part `j` of its resident copy, held. -/
abbrev heldP (c : Dev nD) (j : Fin 4) (f : Ct F pbM c) : sProp 𝕄 := held c (pbuf j) f
/-- Part `j` of the positional table on its way into the resident copy. -/
abbrev flyP (c : Dev nD) (fP : Ct F posM c) (j : Fin 4) (f : Ct F pbM c) : sProp 𝕄 := flying c (pcell j) 131072 (pchk j) fP (pbuf j) f

end Cert.Kernel.Run

end
-- ==== Proof.Run.Value.lean ====
/- What the program computes at one grid point: the block of the result as a function of the six argument arrays. -/
module

public import proofs.«01_k».proof.Proof.Run.Pieces
public import Idealize.ShloMosaic.Lib.ViewIndex
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The six arrays the kernel reads, on core `c`: the input, the mask column, the positional and segment tables,
    the scale, the shift. -/
structure Args (F : FTy → Type) (c : Dev nD) where
  X : Ct F xM c
  M : Ct F mM c
  P : Ct F posM c
  S : Ct F segM c
  G : Ct F gM c
  B : Ct F bM c

/-- The mask's rows of block `b`. -/
abbrev rowOff (n : ℕ) : Fin 2 → Nat := ![n * 1024, 0]
theorem rowOff_inb (b : Fin 16) : ∀ a, rowOff b.val a + S1024x1.size a ≤ S16384x1.size a := by
  have := b.isLt; intro a; fin_cases a
  · show b.val * 1024 + 1024 ≤ 16384; omega
  · show 0 + 1 ≤ 1; omega

section
variable {c : Dev nD} (A : Args F c)

/-- Block `b` of the input, as the kernel loads it. -/
abbrev xIn (b : Fin 16) : Vec F S1x1024x1024 .f32 := shapeCast S1x1024x1024 ((xblk b).view.read (Elt F) A.X) shapeCasts_S1024x1024_S1x1024x1024
/-- The mask's rows of block `b`. -/
abbrev mIn (b : Fin 16) : Vec F S1024x1 .i8 := mM.view.readAt (Elt F) (Rect.unit (s := S16384x1) (rowOff b.val) S1024x1.size (rowOff_inb b)).toLoadRect A.M
/-- The positional rows of block `b`. -/
abbrev pIn (b : Fin 16) : Vec F S1024x1024 .f32 := (pchk (Ring.sl 4 b.val)).view.read (Elt F) A.P
abbrev sIn : Vec F S2x1024 .f32 := segM.view.read (Elt F) A.S
abbrev gIn : Vec F S1x1024 .f32 := gM.view.read (Elt F) A.G
abbrev bIn : Vec F S1x1024 .f32 := bM.view.read (Elt F) A.B

/-- The kernel's arithmetic on the loaded blocks. -/
def compute (m : Vec F S1024x1 .i8) (x : Vec F S1x1024x1024 .f32) (p : Vec F S1024x1024 .f32) (s : Vec F S2x1024 .f32)
    (g b : Vec F S1x1024 .f32) : FVec F S1024x1024 .f32 :=
  k0_pay8 (k0_pay2 (F := F) m) (k0_pay3 x p) (k0_pay4 s) (k0_pay5 s) (k0_pay7 (k0_pay2 (F := F) m) (k0_pay3 x p) (k0_pay4 s) (k0_pay5 s)) g b

/-- Block `b` of the result. -/
def val (b : Fin 16) : FVec F S1024x1024 .f32 := compute (mIn A b) (xIn A b) (pIn A b) (sIn A) (gIn A) (bIn A)

end

/-! ## Loads and stores through the whole buffers, read at the pieces -/

/-- Writing values over the whole of a memref, as one write. -/
theorem put_whole {sp : Space} {s : Shape} {e : EltTy} (c : Dev nD) (M : Memref sig .tc sp s e) (f : Ct F M c) (v : s.Idx → Elt F e) :
    put c M f v = M.view.write (Elt F) f v Finset.univ := by
  have h := View.write_univ_eq_writes_whole (v := M.view) (Val := Elt F) f [] v
  rw [View.writes_nil] at h
  exact h.symm

theorem compute_congr {m : Vec F S1024x1 .i8} {x : Vec F S1x1024x1024 .f32} {p : Vec F S1024x1024 .f32} {s s' : Vec F S2x1024 .f32}
    {g g' b b' : Vec F S1x1024 .f32} (hs : s = s') (hg : g = g') (hb : b = b') : compute m x p s g b = compute m x p s' g' b' := by
  subst hs hg hb; rfl

/-- Reading a view after writing through a re-indexing of it gives the written values re-indexed back. -/
theorem read_after_reshape {κ : Kind} {sp : Space} {s s' : Shape} {e : EltTy} (w : View sig κ sp s e) (h : s'.numel = s.numel) (hc : s'.ShapeCasts s)
    (f : w.ty.Contents (Elt F)) (v : s'.Idx → Elt F e) :
    w.read (Elt F) ((w.reshape s' h).write (Elt F) f v Finset.univ) = shapeCast s v hc := by
  funext x
  have e := View.read_write_reshape (Val := Elt F) w h f v (Shape.reshapeEquiv h.symm x)
  rw [Shape.reshapeEquiv_reshapeEquiv, Shape.reshapeEquiv_self] at e
  exact e

/-- Reading a re-indexing of a view after writing a re-indexed value through the view gives the value. -/
theorem reshape_read_after {κ : Kind} {sp : Space} {s s' : Shape} {e : EltTy} (w : View sig κ sp s e) (h : s'.numel = s.numel) (hc : s'.ShapeCasts s)
    (f : w.ty.Contents (Elt F)) (v : s'.Idx → Elt F e) :
    (w.reshape s' h).read (Elt F) (w.write (Elt F) f (shapeCast s v hc) Finset.univ) = v := by
  funext x
  have e := congrFun (View.read_write_univ (Val := Elt F) (v := w) f (shapeCast s v hc)) (Shape.reshapeEquiv h x)
  refine Eq.trans e ?_
  unfold shapeCast
  rw [Shape.reshapeEquiv_reshapeEquiv, Shape.reshapeEquiv_self]

/-- The slot's rectangle of a ring. -/
abbrev slotRect (s : Fin 4) : Rect S4x1024x1024 := Rect.unit (s := S4x1024x1024) (slotOff s) S1x1024x1024.size (slotOff_inb s)

theorem islot_view (s : Fin 4) : (islot s).view = (inM.view.slice (slotRect s)).reshape S1024x1024 squeezes_S1x1024x1024_S1024x1024.numel_eq := rfl
theorem oslot_view (s : Fin 4) : (oslot s).view = (outM.view.slice (slotRect s)).reshape S1024x1024 squeezes_S1x1024x1024_S1024x1024.numel_eq := rfl

theorem load_slot_at (s : Fin 4) (c : Dev nD) (f : Ct F inM c) (v : FVec F S1024x1024 .f32) :
    (inM.view.slice (slotRect s)).read (Elt F) ((islot s).view.write (Elt F) f v Finset.univ)
      = shapeCast S1x1024x1024 v shapeCasts_S1024x1024_S1x1024x1024 :=
  read_after_reshape (inM.view.slice (slotRect s)) squeezes_S1x1024x1024_S1024x1024.numel_eq shapeCasts_S1024x1024_S1x1024x1024 f v

/-- A load of a ring slot finds what the transfer put there. -/
theorem load_slot (i : grid0.Coords) (c : Dev nD) (f : Ct F inM c) (v : FVec F S1024x1024 .f32) (hh) :
    inM.view.readAt (Elt F) (Rect.unit (s := S4x1024x1024) (k0_off9 i) S1x1024x1024.size hh).toLoadRect (put c (islot (Ring.sl 4 (pt i))) f v)
      = shapeCast S1x1024x1024 v shapeCasts_S1024x1024_S1x1024x1024 := by
  have e : ∀ (s : Fin 4) (off : Fin 3 → ℕ) (ho : off = slotOff s) (hh),
      inM.view.readAt (Elt F) (Rect.unit (s := S4x1024x1024) off S1x1024x1024.size hh).toLoadRect (put c (islot s) f v)
      = shapeCast S1x1024x1024 v shapeCasts_S1024x1024_S1x1024x1024 := by
    intro s off ho hh
    subst ho
    refine Eq.trans (congrArg (fun g : Ct F inM c => inM.view.readAt (Elt F) (slotRect s).toLoadRect g) (put_whole c (islot s) f v)) ?_
    exact load_slot_at s c f v
  exact e _ _ (off9_eq i) hh

theorem read_stored_at (s : Fin 4) (c : Dev nD) (f : Ct F outM c) (v : FVec F S1024x1024 .f32) :
    (oslot s).view.read (Elt F) ((outM.view.slice (slotRect s)).write (Elt F) f (shapeCast S1x1024x1024 v shapeCasts_S1024x1024_S1x1024x1024) Finset.univ) = v :=
  reshape_read_after (outM.view.slice (slotRect s)) squeezes_S1x1024x1024_S1024x1024.numel_eq shapeCasts_S1024x1024_S1x1024x1024 f v

/-- A ring slot reads what was stored through the whole buffer. -/
theorem read_stored (i : grid0.Coords) (c : Dev nD) (f : Ct F outM c) (v : FVec F S1024x1024 .f32) (hh) :
    (oslot (Ring.sl 4 (pt i))).view.read (Elt F)
      (View.write (Elt F) (outM.access (Rect.unit (s := S4x1024x1024) (k0_off9 i) S1x1024x1024.size hh)) f (k0_pay1 v) Finset.univ) = v := by
  have e : ∀ (s : Fin 4) (off : Fin 3 → ℕ) (ho : off = slotOff s) (hh),
      (oslot s).view.read (Elt F)
        (View.write (Elt F) (outM.access (Rect.unit (s := S4x1024x1024) off S1x1024x1024.size hh)) f (k0_pay1 v) Finset.univ) = v := by
    intro s off ho hh
    subst ho
    exact read_stored_at s c f v
  exact e _ _ (off9_eq i) hh

/-- A load of the resident positional rows reads the part. -/
theorem load_part (i : grid0.Coords) (c : Dev nD) (f : Ct F pbM c) (hh) :
    pbM.view.readAt (Elt F) (Rect.unit (s := S4096x1024) (k0_off10 i) S1024x1024.size hh).toLoadRect f
      = (pbuf (Ring.sl 4 (pt i))).view.read (Elt F) f := by
  have e : ∀ (off : Fin 2 → ℕ) (ho : off = partOff (Ring.sl 4 (pt i))) (hh),
      pbM.view.readAt (Elt F) (Rect.unit (s := S4096x1024) off S1024x1024.size hh).toLoadRect f
      = (pbuf (Ring.sl 4 (pt i))).view.read (Elt F) f := by
    intro off ho hh; subst ho; rfl
  exact e _ (off10_eq i) hh

/-- A load of the resident mask rows, when the resident copy reads as the mask does. -/
theorem load_mask (i : grid0.Coords) (c : Dev nD) (f : Ct F mbM c) (A : Args F c) (hf : mbM.view.read (Elt F) f = mM.view.read (Elt F) A.M) (hh) :
    mbM.view.readAt (Elt F) (Rect.unit (s := S16384x1) (k0_off8 i) S1024x1.size hh).toLoadRect f = mIn A (Ring.bk 16 (pt i)) := by
  have e : ∀ (off : Fin 2 → ℕ) (ho : off = rowOff (Ring.bk 16 (pt i)).val) (hh),
      mbM.view.readAt (Elt F) (Rect.unit (s := S16384x1) off S1024x1.size hh).toLoadRect f = mIn A (Ring.bk 16 (pt i)) := by
    intro off ho hh; subst ho
    funext x
    exact congrFun hf _
  exact e _ ((off8_eq i).trans (by rw [Ring.bk_val (pt_lt i)])) hh

theorem sl_bk (n : ℕ) (h : n < 16) : Ring.sl 4 (Ring.bk 16 n).val = Ring.sl 4 n := by rw [Ring.bk_val h]

/-- What the kernel stores at point `i`, read at the slot, is block `i` of the result. -/
theorem stored_eq (i : grid0.Coords) (c : Dev nD) (A : Args F c) (fi : Ct F inM c) (fo : Ct F outM c) (fp : Ct F pbM c) (fm : Ct F mbM c) (fs fg fb : Ct F sgM c)
    (hp : (pbuf (Ring.sl 4 (pt i))).view.read (Elt F) fp = (pchk (Ring.sl 4 (pt i))).view.read (Elt F) A.P)
    (hm : mbM.view.read (Elt F) fm = mM.view.read (Elt F) A.M)
    (hs : sgS.view.read (Elt F) fs = segM.view.read (Elt F) A.S)
    (hg : sgG.view.read (Elt F) fg = gM.view.read (Elt F) A.G)
    (hb : sgB.view.read (Elt F) fb = bM.view.read (Elt F) A.B) (h1 h2 h3 h4 h5 h6 h7) :
    (oslot (Ring.sl 4 (pt i))).view.read (Elt F)
      (View.write (Elt F) (outM.access (Rect.unit (s := S4x1024x1024) (k0_off9 i) S1x1024x1024.size h1)) fo
        (k0_pay1 (compute (mbM.view.readAt (Elt F) (Rect.unit (s := S16384x1) (k0_off8 i) S1024x1.size h2).toLoadRect fm)
          (inM.view.readAt (Elt F) (Rect.unit (s := S4x1024x1024) (k0_off9 i) S1x1024x1024.size h3).toLoadRect
            (put c (islot (Ring.sl 4 (pt i))) fi (ReadAs.same.apply ((xblk (Ring.bk 16 (pt i))).view.read (Elt F) A.X))))
          (pbM.view.readAt (Elt F) (Rect.unit (s := S4096x1024) (k0_off10 i) S1024x1024.size h4).toLoadRect fp)
          (sgM.view.readAt (Elt F) (Rect.unit (s := S4x1024) ![0, 0] S2x1024.size h5).toLoadRect fs)
          (sgM.view.readAt (Elt F) (Rect.unit (s := S4x1024) ![2, 0] S1x1024.size h6).toLoadRect fg)
          (sgM.view.readAt (Elt F) (Rect.unit (s := S4x1024) ![3, 0] S1x1024.size h7).toLoadRect fb))) Finset.univ)
      = val A (Ring.bk 16 (pt i)) := by
  rw [read_stored, load_slot, load_part, load_mask i c fm A hm, hp]
  unfold val pIn
  rw [sl_bk _ (pt_lt i)]
  exact compute_congr hs hg hb

end Cert.Kernel.Run

end
-- ==== Proof.Run.Inv.lean ====
/- The resources before grid point `p`, block by block.

   Block `b` of the input is at home before its transfer is issued and after it has landed, in flight in between; block
   `b` of the result is at its entry contents before its point, in flight for four points after it, then written. -/
module

public import proofs.«01_k».proof.Proof.Run.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable {c : Dev nD} (A : Args F c) (V : Ct F oM c)

/-- What a buffer reads as. -/
def Holds {α : Type} (x y : α) : Prop := x = y

/-- Block `b` of the result, written. -/
abbrev doneO (b : Fin 16) : sProp 𝕄 := homeO c b (put c (oblk b) V (val A b))
/-- Block `b` of the result on its way out of slot `s`. -/
abbrev leaving (s : Fin 4) (b : Fin 16) : sProp 𝕄 := iprop(∃ g, flyO c s g b V ∗ ⌜Holds ((oslot s).view.read (Elt F) g) (val A b)⌝)
/-- Block `b` of the input on its way into slot `s`. -/
abbrev coming (s : Fin 4) (b : Fin 16) : sProp 𝕄 := iprop(∃ f, flyX c A.X s b f)
/-- An input slot at rest: held at something, its semaphore at zero. -/
abbrev freeI (c : Dev nD) (s : Fin 4) : sProp 𝕄 := iprop((∃ f, heldI c s f) ∗ cellZ c (icell s))
/-- An output slot at rest. -/
abbrev freeO (c : Dev nD) (s : Fin 4) : sProp 𝕄 := iprop((∃ f, heldO c s f) ∗ cellZ c (ocell s))
/-- Part `j` of the positional table resident. -/
abbrev resident (j : Fin 4) : sProp 𝕄 := iprop(∃ f, ⌜Holds ((pbuf j).view.read (Elt F) f) ((pchk j).view.read (Elt F) A.P)⌝ ∗ heldP c j f)
/-- The mask resident. -/
abbrev maskIn : sProp 𝕄 := iprop(∃ f, ⌜Holds (mbM.view.read (Elt F) f) (mM.view.read (Elt F) A.M)⌝ ∗ held c mbM f)
/-- The segment rows, the scale and the shift resident. -/
abbrev segIn : sProp 𝕄 := iprop(∃ f : Ct F sgM c, ⌜Holds (sgS.view.read (Elt F) f) (segM.view.read (Elt F) A.S)⌝ ∗ held c sgS f)
abbrev scaleIn : sProp 𝕄 := iprop(∃ f : Ct F sgM c, ⌜Holds (sgG.view.read (Elt F) f) (gM.view.read (Elt F) A.G)⌝ ∗ held c sgG f)
abbrev shiftIn : sProp 𝕄 := iprop(∃ f : Ct F sgM c, ⌜Holds (sgB.view.read (Elt F) f) (bM.view.read (Elt F) A.B)⌝ ∗ held c sgB f)
/-- Everything resident but the positional parts. -/
abbrev tablesIn : sProp 𝕄 := iprop(maskIn A ∗ segIn A ∗ scaleIn A ∗ shiftIn A)

/-- A resident copy reads as what was transferred into it. -/
theorem read_put {sp : Space} {s : Shape} {e : EltTy} (M : Memref sig .tc sp s e) (f : Ct F M c) (v : s.Idx → Elt F e) :
    M.view.read (Elt F) (put c M f v) = v := by
  rw [put_whole]; exact View.read_write_univ (Val := Elt F) (v := M.view) f v

/-- The kernel's body at a grid point, on its own buffers and semaphores. -/
abbrev bodyG (i : grid0.Coords) : Prog (TpuEff nD τ sig (Elt F) Λ₀ .tc) PUnit :=
  cc0__body i xM (Memref.isWhole_whole _) mM (Memref.isWhole_whole _) posM (Memref.isWhole_whole _) segM (Memref.isWhole_whole _) gM (Memref.isWhole_whole _) bM (Memref.isWhole_whole _) oM (Memref.isWhole_whole _) inM (Memref.isWhole_whole _) outM (Memref.isWhole_whole _) pbM (Memref.isWhole_whole _) mbM (Memref.isWhole_whole _) sgM (Memref.isWhole_whole _) cc0_scratch5 cc0_scratch6 cc0_scratch7 cc0_scratch8 cc0_scratch9

end Cert.Kernel.Run

end
-- ==== Proof.Run.BodyMid.lean ====
/- The kernel's body at a point in the middle of the grid (4 ≤ n < 12): it waits for its input block and for the
   output slot's last transfer, computes, sends the block out and asks for the block four points on. -/
module

public import proofs.«01_k».proof.Proof.Run.Inv

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The body at a middle point. -/
theorem runMid (i : grid0.Coords) (c : Dev nD) (h4 : 4 ≤ pt i) (h12 : pt i + 4 < 16) (A : Args F c) (V : Ct F oM c) (W : Waits sig Unit) (Q : PUnit → sProp 𝕄) :
    iprop((coming A (Ring.sl 4 (pt i)) (Ring.bk 16 (pt i))
        ∗ homeX c A.X (Ring.bk 16 (pt i + 4))
        ∗ leaving A V (Ring.sl 4 (pt i)) (Ring.bk 16 (pt i - 4))
        ∗ homeO c (Ring.bk 16 (pt i)) V
        ∗ resident A (Ring.sl 4 (pt i))
        ∗ tablesIn A
        ∗ owes (c : Thread nD τ) 0 W)
      ∗ ((homeX c A.X (Ring.bk 16 (pt i))
        ∗ coming A (Ring.sl 4 (pt i)) (Ring.bk 16 (pt i + 4))
        ∗ doneO A V (Ring.bk 16 (pt i - 4))
        ∗ leaving A V (Ring.sl 4 (pt i)) (Ring.bk 16 (pt i))
        ∗ resident A (Ring.sl 4 (pt i))
        ∗ tablesIn A
        ∗ (∃ W, owes (c : Thread nD τ) 0 W)) -∗ Q ⟨⟩))
      ⊢ wp frame (wpE (defs₀ (F := F)) 𝒱₀ (c : Thread nD τ) none) Set.univ (bodyG (F := F) i) Q := by
  have hf := first_neg i (by omega)
  have hc2 := cond2_neg i (by omega)
  have hc3 := cond3_pos i (by omega)
  have h12 : pt i + 4 < 16 := by omega
  have hc4 := cond4_pos i (by omega)
  have h4 : 4 ≤ pt i := by omega
  have hl := last_neg i (by omega)
  iintro ⟨⟨⟨%fi, Hin⟩, Hx, ⟨%fo, Hout, %hfo⟩, Ho, ⟨%fp, %hp, Hp⟩, ⟨⟨%fm, %hm, Hm⟩, ⟨%fs, %hs, Hs⟩, ⟨%fg, %hg, Hg⟩, ⟨%fb, %hb, Hb⟩⟩, HW⟩, Hk⟩
  dsimp only [bodyG]
  sl_unfold [cc0__body, k0_part3, k0_part4]
  sl_exec
  sl_step
  iapply Hk
  isplitl [Hin_src]; · iexact Hin_src
  isplitl [Hin]; · iexists _; iexact Hin
  isplitl [Hout_dst]; · rw [show _ = _ from hfo]; iexact Hout_dst
  isplitl [Hout]
  · iexists _
    isplitl [Hout]; · iexact Hout
    ipureintro; exact stored_eq i c A _ _ _ _ _ _ _ hp hm hs hg hb _ _ _ _ _ _ _
  isplitl [Hp]
  · iexists fp; isplitr; · ipureintro; exact hp
    iexact Hp
  isplitl [Hm Hs Hg Hb]
  · isplitl [Hm]; · iexists fm; isplitr; · ipureintro; exact hm
                    iexact Hm
    isplitl [Hs]; · iexists fs; isplitr; · ipureintro; exact hs
                    iexact Hs
    isplitl [Hg]; · iexists fg; isplitr; · ipureintro; exact hg
                    iexact Hg
    iexists fb; isplitr; · ipureintro; exact hb
    iexact Hb
  iexists _; iexact HW

end Cert.Kernel.Run

end
-- ==== Proof.Run.BodyEarly.lean ====
/- The kernel's body at one of the points 1, 2, 3: as in the middle of the grid, but the output slot is still free and
   the point's part of the positional table arrives now. -/
module

public import proofs.«01_k».proof.Proof.Run.BodyMid

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The body at an early point. -/
theorem runEarly (i : grid0.Coords) (c : Dev nD) (h1 : ¬ pt i = 0) (h3 : pt i < 4) (A : Args F c) (V : Ct F oM c) (W : Waits sig Unit) (Q : PUnit → sProp 𝕄) :
    iprop((coming A (Ring.sl 4 (pt i)) (Ring.bk 16 (pt i))
        ∗ homeX c A.X (Ring.bk 16 (pt i + 4))
        ∗ freeO c (Ring.sl 4 (pt i))
        ∗ homeO c (Ring.bk 16 (pt i)) V
        ∗ (∃ f, flyP c A.P (Ring.sl 4 (pt i)) f)
        ∗ tablesIn A
        ∗ owes (c : Thread nD τ) 0 W)
      ∗ ((homeX c A.X (Ring.bk 16 (pt i))
        ∗ coming A (Ring.sl 4 (pt i)) (Ring.bk 16 (pt i + 4))
        ∗ leaving A V (Ring.sl 4 (pt i)) (Ring.bk 16 (pt i))
        ∗ resident A (Ring.sl 4 (pt i))
        ∗ homeP c A.P (Ring.sl 4 (pt i))
        ∗ cellZ c (pcell (Ring.sl 4 (pt i)))
        ∗ tablesIn A
        ∗ (∃ W, owes (c : Thread nD τ) 0 W)) -∗ Q ⟨⟩))
      ⊢ wp frame (wpE (defs₀ (F := F)) 𝒱₀ (c : Thread nD τ) none) Set.univ (bodyG (F := F) i) Q := by
  have hf := first_neg i (by omega)
  have hc2 := cond2_pos i (by omega)
  have hc3 := cond3_neg i (by omega)
  have h12 : pt i + 4 < 16 := by omega
  have hc4 := cond4_pos i (by omega)
  have hl := last_neg i (by omega)
  iintro ⟨⟨⟨%fi, Hin⟩, Hx, ⟨⟨%fo, Hs0⟩, Hout⟩, Ho, ⟨%fp, Hp⟩, ⟨⟨%fm, %hm, Hm⟩, ⟨%fs, %hs, Hs⟩, ⟨%fg, %hg, Hg⟩, ⟨%fb, %hb, Hb⟩⟩, HW⟩, Hk⟩
  dsimp only [bodyG]
  sl_unfold [cc0__body, k0_part3, k0_part4]
  sl_exec
  sl_step
  have hp : Holds ((pbuf (Ring.sl 4 (pt i))).view.read (Elt F) (put c (pbuf (Ring.sl 4 (pt i))) (pbuf (Ring.sl 4 (pt i))).view.junk (ReadAs.same.apply ((pchk (Ring.sl 4 (pt i))).view.read (Elt F) A.P)))) ((pchk (Ring.sl 4 (pt i))).view.read (Elt F) A.P) := read_put _ _ _
  iapply Hk
  isplitl [Hin_src]; · iexact Hin_src
  isplitl [Hin]; · iexists _; iexact Hin
  isplitl [Hout]
  · iexists _
    isplitl [Hout]; · iexact Hout
    ipureintro; exact stored_eq i c A _ _ _ _ _ _ _ hp hm hs hg hb _ _ _ _ _ _ _
  isplitl [Hp_dst]
  · iexists _; isplitr; · ipureintro; exact hp
    iexact Hp_dst
  isplitl [Hp_src]; · iexact Hp_src
  isplitl [Hp]; · iexact Hp
  isplitl [Hm Hs Hg Hb]
  · isplitl [Hm]; · iexists fm; isplitr; · ipureintro; exact hm
                    iexact Hm
    isplitl [Hs]; · iexists fs; isplitr; · ipureintro; exact hs
                    iexact Hs
    isplitl [Hg]; · iexists fg; isplitr; · ipureintro; exact hg
                    iexact Hg
    iexists fb; isplitr; · ipureintro; exact hb
    iexact Hb
  iexists _; iexact HW

end Cert.Kernel.Run

end
-- ==== Proof.Run.BodyLate.lean ====
/- The kernel's body at one of the points 12, 13, 14: as in the middle of the grid, with no further block to ask for. -/
module

public import proofs.«01_k».proof.Proof.Run.BodyEarly

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The body at a late point. -/
theorem runLate (i : grid0.Coords) (c : Dev nD) (h12 : 12 ≤ pt i) (h15 : pt i < 15) (A : Args F c) (V : Ct F oM c) (W : Waits sig Unit) (Q : PUnit → sProp 𝕄) :
    iprop((coming A (Ring.sl 4 (pt i)) (Ring.bk 16 (pt i))
        ∗ leaving A V (Ring.sl 4 (pt i)) (Ring.bk 16 (pt i - 4))
        ∗ homeO c (Ring.bk 16 (pt i)) V
        ∗ resident A (Ring.sl 4 (pt i))
        ∗ tablesIn A
        ∗ owes (c : Thread nD τ) 0 W)
      ∗ ((homeX c A.X (Ring.bk 16 (pt i))
        ∗ freeI c (Ring.sl 4 (pt i))
        ∗ doneO A V (Ring.bk 16 (pt i - 4))
        ∗ leaving A V (Ring.sl 4 (pt i)) (Ring.bk 16 (pt i))
        ∗ resident A (Ring.sl 4 (pt i))
        ∗ tablesIn A
        ∗ (∃ W, owes (c : Thread nD τ) 0 W)) -∗ Q ⟨⟩))
      ⊢ wp frame (wpE (defs₀ (F := F)) 𝒱₀ (c : Thread nD τ) none) Set.univ (bodyG (F := F) i) Q := by
  have hf := first_neg i (by omega)
  have hc2 := cond2_neg i (by omega)
  have hc3 := cond3_pos i (by omega)
  have hc4 := cond4_neg i (by omega)
  have h4 : 4 ≤ pt i := by omega
  have hl := last_neg i (by omega)
  iintro ⟨⟨⟨%fi, Hin⟩, ⟨%fo, Hout, %hfo⟩, Ho, ⟨%fp, %hp, Hp⟩, ⟨⟨%fm, %hm, Hm⟩, ⟨%fs, %hs, Hs⟩, ⟨%fg, %hg, Hg⟩, ⟨%fb, %hb, Hb⟩⟩, HW⟩, Hk⟩
  dsimp only [bodyG]
  sl_unfold [cc0__body, k0_part3, k0_part4]
  sl_exec
  sl_step
  iapply Hk
  isplitl [Hin_src]; · iexact Hin_src
  isplitl [Hin_dst Hin]
  · isplitl [Hin_dst]; · iexists _; iexact Hin_dst
    iexact Hin
  isplitl [Hout_dst]; · rw [show _ = _ from hfo]; iexact Hout_dst
  isplitl [Hout]
  · iexists _
    isplitl [Hout]; · iexact Hout
    ipureintro; exact stored_eq i c A _ _ _ _ _ _ _ hp hm hs hg hb _ _ _ _ _ _ _
  isplitl [Hp]
  · iexists fp; isplitr; · ipureintro; exact hp
    iexact Hp
  isplitl [Hm Hs Hg Hb]
  · isplitl [Hm]; · iexists fm; isplitr; · ipureintro; exact hm
                    iexact Hm
    isplitl [Hs]; · iexists fs; isplitr; · ipureintro; exact hs
                    iexact Hs
    isplitl [Hg]; · iexists fg; isplitr; · ipureintro; exact hg
                    iexact Hg
    iexists fb; isplitr; · ipureintro; exact hb
    iexact Hb
  iexists _; iexact HW

end Cert.Kernel.Run

end
-- ==== Proof.Run.BodyLast.lean ====
/- The kernel's body at the last point: it computes and sends out the last block, then waits for the four transfers
   still on their way out. -/
module

public import proofs.«01_k».proof.Proof.Run.BodyLate

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The body at the last point. -/
theorem runLast (i : grid0.Coords) (c : Dev nD) (h15 : pt i = 15) (A : Args F c) (V : Ct F oM c) (W : Waits sig Unit) (Q : PUnit → sProp 𝕄) :
    iprop((coming A (Ring.sl 4 (pt i)) (Ring.bk 16 (pt i))
        ∗ leaving A V (Ring.sl 4 (pt i)) (Ring.bk 16 (pt i - 4))
        ∗ homeO c (Ring.bk 16 (pt i)) V
        ∗ resident A (Ring.sl 4 (pt i))
        ∗ tablesIn A
        ∗ leaving A V 0 12
        ∗ leaving A V 1 13
        ∗ leaving A V 2 14
        ∗ owes (c : Thread nD τ) 0 W)
      ∗ ((homeX c A.X (Ring.bk 16 (pt i))
        ∗ freeI c (Ring.sl 4 (pt i))
        ∗ doneO A V (Ring.bk 16 (pt i - 4))
        ∗ doneO A V (Ring.bk 16 (pt i))
        ∗ freeO c (Ring.sl 4 (pt i))
        ∗ resident A (Ring.sl 4 (pt i))
        ∗ tablesIn A
        ∗ doneO A V 12
        ∗ doneO A V 13
        ∗ doneO A V 14
        ∗ freeO c 0
        ∗ freeO c 1
        ∗ freeO c 2
        ∗ (∃ W, owes (c : Thread nD τ) 0 W)) -∗ Q ⟨⟩))
      ⊢ wp frame (wpE (defs₀ (F := F)) 𝒱₀ (c : Thread nD τ) none) Set.univ (bodyG (F := F) i) Q := by
  have hf := first_neg i (by omega)
  have hc2 := cond2_neg i (by omega)
  have hc3 := cond3_pos i (by omega)
  have hc4 := cond4_neg i (by omega)
  have h4 : 4 ≤ pt i := by omega
  have hl := last_pos i h15
  have hcanon1 : oslot 3 = oslot (Ring.sl 4 (pt i)) := by rw [h15]; rfl
  have hcanon2 : ocell 3 = ocell (Ring.sl 4 (pt i)) := by rw [h15]; rfl
  have hcanon3 : oblk 15 = oblk (Ring.bk 16 (pt i)) := by rw [h15]; rfl
  iintro ⟨⟨⟨%fi, Hin⟩, ⟨%fo, Hout, %hfo⟩, Ho, ⟨%fp, %hp, Hp⟩, ⟨⟨%fm, %hm, Hm⟩, ⟨%fs, %hs, Hs⟩, ⟨%fg, %hg, Hg⟩, ⟨%fb, %hb, Hb⟩⟩, ⟨%g0, Ha0, %e0⟩, ⟨%g1, Ha1, %e1⟩, ⟨%g2, Ha2, %e2⟩, HW⟩, Hk⟩
  dsimp only [bodyG]
  sl_unfold [cc0__body, k0_part3, k0_part4]
  sl_exec
  sl_step
  have hv : runLast.sl.dma11 i c A fo fp fm fs fg fb = val A (Ring.bk 16 (pt i)) := stored_eq i c A _ _ _ _ _ _ _ hp hm hs hg hb _ _ _ _ _ _ _
  iapply Hk
  isplitl [Hin_src]; · iexact Hin_src
  isplitl [Hin_dst Hin]
  · isplitl [Hin_dst]; · iexists _; iexact Hin_dst
    iexact Hin
  isplitl [Hout_dst]; · rw [show _ = _ from hfo]; iexact Hout_dst
  isplitl [Ho]; · rw [hv]; iexact Ho
  isplitl [Hout_src Hout]
  · isplitl [Hout_src]; · iexists _; iexact Hout_src
    iexact Hout
  isplitl [Hp]
  · iexists fp; isplitr; · ipureintro; exact hp
    iexact Hp
  isplitl [Hm Hs Hg Hb]
  · isplitl [Hm]; · iexists fm; isplitr; · ipureintro; exact hm
                    iexact Hm
    isplitl [Hs]; · iexists fs; isplitr; · ipureintro; exact hs
                    iexact Hs
    isplitl [Hg]; · iexists fg; isplitr; · ipureintro; exact hg
                    iexact Hg
    iexists fb; isplitr; · ipureintro; exact hb
    iexact Hb
  isplitl [Ha0_dst]; · rw [show _ = _ from e0]; iexact Ha0_dst
  isplitl [Ha1_dst]; · rw [show _ = _ from e1]; iexact Ha1_dst
  isplitl [Ha2_dst]; · rw [show _ = _ from e2]; iexact Ha2_dst
  isplitl [Ha0_src Ha0]
  · isplitl [Ha0_src]; · iexists _; iexact Ha0_src
    iexact Ha0
  isplitl [Ha1_src Ha1]
  · isplitl [Ha1_src]; · iexists _; iexact Ha1_src
    iexact Ha1
  isplitl [Ha2_src Ha2]
  · isplitl [Ha2_src]; · iexists _; iexact Ha2_src
    iexact Ha2
  iexists _; iexact HW

end Cert.Kernel.Run

end
-- ==== Proof.Run.BodyFirst.lean ====
/- The kernel's body at the first point: it starts every transfer of the start-up, waits for the small tables, and goes
   on as at an early point. -/
module

public import proofs.«01_k».proof.Proof.Run.BodyLast

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The body at the first point. -/
theorem runFirst (i : grid0.Coords) (c : Dev nD) (h0 : pt i = 0) (A : Args F c) (V : Ct F oM c) (W : Waits sig Unit) (Q : PUnit → sProp 𝕄) :
    iprop((freeI c (Ring.sl 4 (pt i))
        ∗ freeI c 1
        ∗ freeI c 2
        ∗ freeI c 3
        ∗ homeX c A.X (Ring.bk 16 (pt i))
        ∗ homeX c A.X 1
        ∗ homeX c A.X 2
        ∗ homeX c A.X 3
        ∗ homeX c A.X (Ring.bk 16 (pt i + 4))
        ∗ freeO c (Ring.sl 4 (pt i))
        ∗ homeO c (Ring.bk 16 (pt i)) V
        ∗ ((∃ f, heldP c (Ring.sl 4 (pt i)) f) ∗ homeP c A.P (Ring.sl 4 (pt i)) ∗ cellZ c (pcell (Ring.sl 4 (pt i))))
        ∗ ((∃ f, heldP c 1 f) ∗ homeP c A.P 1 ∗ cellZ c (pcell 1))
        ∗ ((∃ f, heldP c 2 f) ∗ homeP c A.P 2 ∗ cellZ c (pcell 2))
        ∗ ((∃ f, heldP c 3 f) ∗ homeP c A.P 3 ∗ cellZ c (pcell 3))
        ∗ ((∃ f, held c mbM f) ∗ held c mM A.M ∗ cellZ c cc0_scratch8)
        ∗ ((∃ f : Ct F sgM c, held c sgS f) ∗ held c segM A.S ∗ cellZ c sgc0)
        ∗ ((∃ f : Ct F sgM c, held c sgG f) ∗ held c gM A.G ∗ cellZ c sgc1)
        ∗ ((∃ f : Ct F sgM c, held c sgB f) ∗ held c bM A.B ∗ cellZ c sgc2)
        ∗ owes (c : Thread nD τ) 0 W)
      ∗ ((homeX c A.X (Ring.bk 16 (pt i))
        ∗ coming A 1 1
        ∗ coming A 2 2
        ∗ coming A 3 3
        ∗ coming A (Ring.sl 4 (pt i)) (Ring.bk 16 (pt i + 4))
        ∗ leaving A V (Ring.sl 4 (pt i)) (Ring.bk 16 (pt i))
        ∗ resident A (Ring.sl 4 (pt i))
        ∗ homeP c A.P (Ring.sl 4 (pt i))
        ∗ cellZ c (pcell (Ring.sl 4 (pt i)))
        ∗ (∃ f, flyP c A.P 1 f)
        ∗ (∃ f, flyP c A.P 2 f)
        ∗ (∃ f, flyP c A.P 3 f)
        ∗ tablesIn A
        ∗ (held c mM A.M ∗ cellZ c cc0_scratch8)
        ∗ (held c segM A.S ∗ cellZ c sgc0)
        ∗ (held c gM A.G ∗ cellZ c sgc1)
        ∗ (held c bM A.B ∗ cellZ c sgc2)
        ∗ (∃ W, owes (c : Thread nD τ) 0 W)) -∗ Q ⟨⟩))
      ⊢ wp frame (wpE (defs₀ (F := F)) 𝒱₀ (c : Thread nD τ) none) Set.univ (bodyG (F := F) i) Q := by
  have hf := first_pos i h0
  have hc2 := cond2_pos i (by omega)
  have hc3 := cond3_neg i (by omega)
  have h12 : pt i + 4 < 16 := by omega
  have hc4 := cond4_pos i (by omega)
  have hl := last_neg i (by omega)
  have hcanon1 : islot 0 = islot (Ring.sl 4 (pt i)) := by rw [h0]; rfl
  have hcanon2 : icell 0 = icell (Ring.sl 4 (pt i)) := by rw [h0]; rfl
  have hcanon3 : xblk 0 = xblk (Ring.bk 16 (pt i)) := by rw [h0]; rfl
  have hcanon4 : pchk 0 = pchk (Ring.sl 4 (pt i)) := by rw [h0]; rfl
  have hcanon5 : pbuf 0 = pbuf (Ring.sl 4 (pt i)) := by rw [h0]; rfl
  have hcanon6 : pcell 0 = pcell (Ring.sl 4 (pt i)) := by rw [h0]; rfl
  iintro ⟨⟨⟨⟨%fi, Hi⟩, Hin⟩, ⟨⟨%fi1, Hi1⟩, Hin1⟩, ⟨⟨%fi2, Hi2⟩, Hin2⟩, ⟨⟨%fi3, Hi3⟩, Hin3⟩, Hx0, Hx1, Hx2, Hx3, Hx4, ⟨⟨%fo, Hs0⟩, Hout⟩, Ho, ⟨⟨%fp0, Hpb0⟩, Hph0, Hp0⟩, ⟨⟨%fp1, Hpb1⟩, Hph1, Hp1⟩, ⟨⟨%fp2, Hpb2⟩, Hph2, Hp2⟩, ⟨⟨%fp3, Hpb3⟩, Hph3, Hp3⟩, ⟨⟨%fm, Hmb⟩, Hmh, Hmc⟩, ⟨⟨%fs, Hsb⟩, Hsh, Hsc⟩, ⟨⟨%fg, Hgb⟩, Hgh, Hgc⟩, ⟨⟨%fb, Hbb⟩, Hbh, Hbc⟩, HW⟩, Hk⟩
  dsimp only [bodyG]
  sl_unfold [cc0__body, k0_part1, k0_part2, k0_part3, k0_part4]
  sl_exec
  sl_step
  have hp : Holds ((pbuf (Ring.sl 4 (pt i))).view.read (Elt F) (put c (pbuf (Ring.sl 4 (pt i))) (pbuf (Ring.sl 4 (pt i))).view.junk (ReadAs.same.apply ((pchk (Ring.sl 4 (pt i))).view.read (Elt F) A.P)))) ((pchk (Ring.sl 4 (pt i))).view.read (Elt F) A.P) := read_put _ _ _
  have hm : Holds (mbM.view.read (Elt F) (put c mbM mbM.view.junk (ReadAs.same.apply (mM.view.read (Elt F) A.M)))) (mM.view.read (Elt F) A.M) := read_put _ _ _
  have hs : Holds (sgS.view.read (Elt F) (put c sgS sgS.view.junk (ReadAs.same.apply (segM.view.read (Elt F) A.S)))) (segM.view.read (Elt F) A.S) := read_put _ _ _
  have hg : Holds (sgG.view.read (Elt F) (put c sgG sgG.view.junk (ReadAs.same.apply (gM.view.read (Elt F) A.G)))) (gM.view.read (Elt F) A.G) := read_put _ _ _
  have hb : Holds (sgB.view.read (Elt F) (put c sgB sgB.view.junk (ReadAs.same.apply (bM.view.read (Elt F) A.B)))) (bM.view.read (Elt F) A.B) := read_put _ _ _
  iapply Hk
  isplitl [Hx0]; · iexact Hx0
  isplitl [Hin1]; · iexists _; iexact Hin1
  isplitl [Hin2]; · iexists _; iexact Hin2
  isplitl [Hin3]; · iexists _; iexact Hin3
  isplitl [Hin]; · iexists _; iexact Hin
  isplitl [Hout]
  · iexists _
    isplitl [Hout]; · iexact Hout
    ipureintro; exact stored_eq i c A _ _ _ _ _ _ _ hp hm hs hg hb _ _ _ _ _ _ _
  isplitl [Hpb0]
  · iexists _; isplitr; · ipureintro; exact hp
    iexact Hpb0
  isplitl [Hph0]; · iexact Hph0
  isplitl [Hp0]; · iexact Hp0
  isplitl [Hp1]; · iexists _; iexact Hp1
  isplitl [Hp2]; · iexists _; iexact Hp2
  isplitl [Hp3]; · iexists _; iexact Hp3
  isplitl [Hmb Hsb Hgb Hbb]
  · isplitl [Hmb]; · iexists _; isplitr; · ipureintro; exact hm
                     iexact Hmb
    isplitl [Hsb]; · iexists _; isplitr; · ipureintro; exact hs
                     iexact Hsb
    isplitl [Hgb]; · iexists _; isplitr; · ipureintro; exact hg
                     iexact Hgb
    iexists _; isplitr; · ipureintro; exact hb
    iexact Hbb
  isplitl [Hmh Hmc]
  · isplitl [Hmh]; · iexact Hmh
    iexact Hmc
  isplitl [Hsh Hsc]
  · isplitl [Hsh]; · iexact Hsh
    iexact Hsc
  isplitl [Hgh Hgc]
  · isplitl [Hgh]; · iexact Hgh
    iexact Hgc
  isplitl [Hbh Hbc]
  · isplitl [Hbh]; · iexact Hbh
    iexact Hbc
  iexists _; iexact HW

end Cert.Kernel.Run

end
-- ==== Proof.Run.Phi.lean ====
/- What the kernel holds before each grid point, and how one point changes it.

   The resources are three families, over the sixteen blocks of the input, the sixteen blocks of the result and the four
   parts of the positional table, with the small tables beside them. A point changes one or two members of a family (the
   first and the last point five); the rest carry over. -/
module

public import proofs.«01_k».proof.Proof.Run.BodyFirst

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## One step of a family -/

/-- A family that changes only at the members of a list is handed over at those, and taken back changed. -/
theorem family_step {n : ℕ} (L : List (Fin n)) (hL : L.Nodup) (f g : Fin n → sProp 𝕄) (h : ∀ x, x ∉ L → f x = g x) {P Q : sProp 𝕄}
    (hP : bigSepL L f = P) (hQ : bigSepL L g = Q) :
    bigSep Finset.univ f ⊢ iprop(P ∗ (Q -∗ bigSep Finset.univ g)) := by
  have e1 : bigSep Finset.univ f = iprop(P ∗ bigSep (Finset.univ \ L.toFinset) f) := by
    rw [bigSep_sdiff_split (Finset.subset_univ L.toFinset), bigSep_eq_bigSepL L hL, hP]; rfl
  have e2 : bigSep Finset.univ g = iprop(Q ∗ bigSep (Finset.univ \ L.toFinset) g) := by
    rw [bigSep_sdiff_split (Finset.subset_univ L.toFinset), bigSep_eq_bigSepL L hL, hQ]; rfl
  have e3 : bigSep (Finset.univ \ L.toFinset) f = bigSep (Finset.univ \ L.toFinset) g :=
    bigSep_congr fun x hx => h x (by simpa using hx)
  rw [e1, e2, e3]
  iintro ⟨HP, HR⟩
  isplitl [HP]; · iexact HP
  iintro HQ
  isplitl [HQ]; · iexact HQ
  iexact HR

variable {c : Dev nD} (A : Args F c) (V : Ct F oM c)

/-! ## The families -/

/-- Block `b` of the input before point `p`. -/
def inB (p : ℕ) (b : Fin 16) : sProp 𝕄 :=
  if p = 0 then (if b.val < 4 then iprop(homeX c A.X b ∗ freeI c (Ring.sl 4 b.val)) else homeX c A.X b)
  else if b.val < p then (if 12 ≤ b.val then iprop(homeX c A.X b ∗ freeI c (Ring.sl 4 b.val)) else homeX c A.X b)
  else if b.val < p + 4 then coming A (Ring.sl 4 b.val) b
  else homeX c A.X b

/-- Block `b` of the result before point `p`. -/
def outB (p : ℕ) (b : Fin 16) : sProp 𝕄 :=
  if p = 16 then (if 12 ≤ b.val then iprop(doneO A V b ∗ freeO c (Ring.sl 4 b.val)) else doneO A V b)
  else if b.val + 4 < p then doneO A V b
  else if b.val < p then leaving A V (Ring.sl 4 b.val) b
  else if b.val < 4 then iprop(homeO c b V ∗ freeO c (Ring.sl 4 b.val))
  else homeO c b V

/-- Part `j` of the positional table before point `p`. -/
def posB (p : ℕ) (j : Fin 4) : sProp 𝕄 :=
  if p = 0 then iprop((∃ f, heldP c j f) ∗ homeP c A.P j ∗ cellZ c (pcell j))
  else if j.val < p then iprop(resident A j ∗ homeP c A.P j ∗ cellZ c (pcell j))
  else iprop(∃ f, flyP c A.P j f)

/-- The small tables before the first point: at home, nothing copied. -/
def tabStart : sProp 𝕄 :=
  iprop(((∃ f, held c mbM f) ∗ held c mM A.M ∗ cellZ c cc0_scratch8)
    ∗ ((∃ f : Ct F sgM c, held c sgS f) ∗ held c segM A.S ∗ cellZ c sgc0)
    ∗ ((∃ f : Ct F sgM c, held c sgG f) ∗ held c gM A.G ∗ cellZ c sgc1)
    ∗ ((∃ f : Ct F sgM c, held c sgB f) ∗ held c bM A.B ∗ cellZ c sgc2))
/-- The small tables after it: at home and resident. -/
def tabRest : sProp 𝕄 :=
  iprop(tablesIn A ∗ (held c mM A.M ∗ cellZ c cc0_scratch8) ∗ (held c segM A.S ∗ cellZ c sgc0)
    ∗ (held c gM A.G ∗ cellZ c sgc1) ∗ (held c bM A.B ∗ cellZ c sgc2))
/-- The small tables before point `p`. -/
def tabB (p : ℕ) : sProp 𝕄 := if p = 0 then tabStart A else tabRest A

/-- Everything the kernel holds before point `p`. -/
def Φ (p : ℕ) : sProp 𝕄 :=
  iprop(bigSep Finset.univ (inB A p) ∗ bigSep Finset.univ (outB A V p) ∗ bigSep Finset.univ (posB A p) ∗ tabB A p)

/-! ## The members' cases -/

variable {A V}

theorem inB_done {p : ℕ} {b : Fin 16} (h : b.val < p) (h12 : b.val < 12) : inB A p b = homeX c A.X b := by
  unfold inB; rw [if_neg (by omega), if_pos h, if_neg (by omega)]
theorem inB_end {p : ℕ} {b : Fin 16} {s : Fin 4} (h : b.val < p) (h12 : 12 ≤ b.val) (hs : Ring.sl 4 b.val = s) :
    inB A p b = iprop(homeX c A.X b ∗ freeI c s) := by
  unfold inB; rw [if_neg (by omega), if_pos h, if_pos h12, hs]
theorem inB_fly {p : ℕ} {b : Fin 16} {s : Fin 4} (h0 : 0 < p) (h : p ≤ b.val) (h4 : b.val < p + 4) (hs : Ring.sl 4 b.val = s) :
    inB A p b = coming A s b := by
  unfold inB; rw [if_neg (by omega), if_neg (by omega), if_pos h4, hs]
theorem inB_home {p : ℕ} {b : Fin 16} (h : p + 4 ≤ b.val) : inB A p b = homeX c A.X b := by
  unfold inB
  by_cases h0 : p = 0
  · rw [if_pos h0, if_neg (by omega)]
  · rw [if_neg h0, if_neg (by omega), if_neg (by omega)]
theorem inB_zero {b : Fin 16} {s : Fin 4} (h : b.val < 4) (hs : Ring.sl 4 b.val = s) :
    inB A 0 b = iprop(homeX c A.X b ∗ freeI c s) := by
  unfold inB; rw [if_pos rfl, if_pos h, hs]

theorem outB_done {p : ℕ} {b : Fin 16} (hp : p < 16) (h : b.val + 4 < p) : outB A V p b = doneO A V b := by
  unfold outB; rw [if_neg (by omega), if_pos h]
theorem outB_fly {p : ℕ} {b : Fin 16} {s : Fin 4} (hp : p < 16) (h : p ≤ b.val + 4) (h' : b.val < p) (hs : Ring.sl 4 b.val = s) :
    outB A V p b = leaving A V s b := by
  unfold outB; rw [if_neg (by omega), if_neg (by omega), if_pos h', hs]
theorem outB_fresh {p : ℕ} {b : Fin 16} {s : Fin 4} (hp : p < 16) (h : p ≤ b.val) (h' : b.val < 4) (hs : Ring.sl 4 b.val = s) :
    outB A V p b = iprop(homeO c b V ∗ freeO c s) := by
  unfold outB; rw [if_neg (by omega), if_neg (by omega), if_neg (by omega), if_pos h', hs]
theorem outB_home {p : ℕ} {b : Fin 16} (hp : p < 16) (h : p ≤ b.val) (h' : 4 ≤ b.val) : outB A V p b = homeO c b V := by
  unfold outB; rw [if_neg (by omega), if_neg (by omega), if_neg (by omega), if_neg (by omega)]
theorem outB_end {b : Fin 16} (h : b.val < 12) : outB A V 16 b = doneO A V b := by
  unfold outB; rw [if_pos rfl, if_neg (by omega)]
theorem outB_last {b : Fin 16} {s : Fin 4} (h : 12 ≤ b.val) (hs : Ring.sl 4 b.val = s) :
    outB A V 16 b = iprop(doneO A V b ∗ freeO c s) := by
  unfold outB; rw [if_pos rfl, if_pos h, hs]

theorem posB_zero {j : Fin 4} : posB A 0 j = iprop((∃ f, heldP c j f) ∗ homeP c A.P j ∗ cellZ c (pcell j)) := by
  unfold posB; rw [if_pos rfl]
theorem posB_in {p : ℕ} {j : Fin 4} (h : j.val < p) : posB A p j = iprop(resident A j ∗ homeP c A.P j ∗ cellZ c (pcell j)) := by
  unfold posB; rw [if_neg (by omega), if_pos h]
theorem posB_fly {p : ℕ} {j : Fin 4} (h0 : 0 < p) (h : p ≤ j.val) : posB A p j = iprop(∃ f, flyP c A.P j f) := by
  unfold posB; rw [if_neg (by omega), if_neg (by omega)]

/-! ## The families over one point -/

theorem bk_val {n : ℕ} (h : n < 16) : (Ring.bk 16 n).val = n := Ring.bk_val h
theorem sl_of_bk {n : ℕ} (h : n < 16) : Ring.sl 4 (Ring.bk 16 n).val = Ring.sl 4 n := by rw [bk_val h]
theorem sl_four (n : ℕ) : Ring.sl 4 (n + 4) = Ring.sl 4 n := Fin.ext (by simp [Ring.sl])
theorem bk_ne {n k : ℕ} (hn : n < 16) (hk : k < 16) (h : n ≠ k) : Ring.bk 16 n ≠ Ring.bk 16 k := fun e => h (by
  have := congrArg Fin.val e; rwa [bk_val hn, bk_val hk] at this)
theorem ne_bk {n : ℕ} {b : Fin 16} (hn : n < 16) (h : b ≠ Ring.bk 16 n) : b.val ≠ n := fun e => h (Fin.ext (by rw [bk_val hn, e]))

/-- The input over a point that asks for a further block. -/
theorem in_step {n : ℕ} (h0 : 0 < n) (h : n + 4 < 16) :
    bigSep Finset.univ (inB A n) ⊢ iprop((coming A (Ring.sl 4 n) (Ring.bk 16 n) ∗ homeX c A.X (Ring.bk 16 (n + 4)))
      ∗ ((homeX c A.X (Ring.bk 16 n) ∗ coming A (Ring.sl 4 n) (Ring.bk 16 (n + 4))) -∗ bigSep Finset.univ (inB A (n + 1)))) := by
  have v0 := bk_val (n := n) (by omega)
  have v4 := bk_val (n := n + 4) h
  refine family_step [Ring.bk 16 n, Ring.bk 16 (n + 4)] (List.nodup_cons.mpr ⟨by rw [List.mem_singleton]; exact bk_ne (by omega) h (by omega), List.nodup_singleton _⟩) _ _ (fun b hb => ?_) ?_ ?_
  · simp only [List.mem_cons, List.not_mem_nil, _root_.or_false, not_or] at hb
    have h1 := ne_bk (by omega) hb.1
    have h2 := ne_bk h hb.2
    unfold inB; rw [if_neg (by omega), if_neg (by omega : ¬ n + 1 = 0)]
    by_cases a : b.val < n
    · rw [if_pos a, if_pos (by omega : b.val < n + 1)]
    · rw [if_neg a, if_neg (by omega : ¬ b.val < n + 1)]
      by_cases a' : b.val < n + 4
      · rw [if_pos a', if_pos (by omega)]
      · rw [if_neg a', if_neg (by omega)]
  · rw [bigSepL_cons_cons, bigSepL_singleton, inB_fly h0 (by omega) (by omega) (sl_of_bk (by omega)), inB_home (by omega)]
    rfl
  · rw [bigSepL_cons_cons, bigSepL_singleton, inB_done (by omega) (by omega), inB_fly (by omega) (by omega) (by omega) ((sl_of_bk h).trans (sl_four n))]
    rfl

/-- The input over a point that asks for nothing more. -/
theorem in_late {n : ℕ} (h12 : 12 ≤ n) (h : n < 16) :
    bigSep Finset.univ (inB A n) ⊢ iprop(coming A (Ring.sl 4 n) (Ring.bk 16 n)
      ∗ ((homeX c A.X (Ring.bk 16 n) ∗ freeI c (Ring.sl 4 n)) -∗ bigSep Finset.univ (inB A (n + 1)))) := by
  have v0 := bk_val h
  refine family_step [Ring.bk 16 n] (by simp) _ _ (fun b hb => ?_) ?_ ?_
  · have h1 := ne_bk h (by simpa using hb)
    have := b.isLt
    unfold inB; rw [if_neg (by omega), if_neg (by omega : ¬ n + 1 = 0)]
    by_cases a : b.val < n
    · rw [if_pos a, if_pos (by omega : b.val < n + 1)]
    · rw [if_neg a, if_neg (by omega : ¬ b.val < n + 1), if_pos (by omega), if_pos (by omega)]
  · rw [bigSepL_singleton, inB_fly (by omega) (by omega) (by omega) (sl_of_bk h)]
  · rw [bigSepL_singleton, inB_end (by omega) (by omega) (sl_of_bk h)]

/-- The input over the first point. -/
theorem in_first :
    bigSep Finset.univ (inB A 0) ⊢ iprop(((homeX c A.X (Ring.bk 16 0) ∗ freeI c (Ring.sl 4 0)) ∗ (homeX c A.X 1 ∗ freeI c 1) ∗ (homeX c A.X 2 ∗ freeI c 2)
        ∗ (homeX c A.X 3 ∗ freeI c 3) ∗ homeX c A.X (Ring.bk 16 (0 + 4)))
      ∗ ((homeX c A.X (Ring.bk 16 0) ∗ coming A 1 1 ∗ coming A 2 2 ∗ coming A 3 3 ∗ coming A (Ring.sl 4 0) (Ring.bk 16 (0 + 4)))
        -∗ bigSep Finset.univ (inB A 1))) := by
  refine family_step [Ring.bk 16 0, 1, 2, 3, Ring.bk 16 (0 + 4)] (by decide) _ _ (fun b hb => ?_) ?_ ?_
  · have h5 : 5 ≤ b.val := by
      simp only [List.mem_cons, List.not_mem_nil, _root_.or_false, not_or] at hb
      obtain ⟨a0, a1, a2, a3, a4⟩ := hb
      have e0 := ne_bk (n := 0) (by omega) a0
      have e1 : b.val ≠ 1 := fun e => a1 (Fin.ext e)
      have e2 : b.val ≠ 2 := fun e => a2 (Fin.ext e)
      have e3 : b.val ≠ 3 := fun e => a3 (Fin.ext e)
      have e4 := ne_bk (n := 0 + 4) (by omega) a4
      omega
    rw [inB_home (by omega), inB_home (by omega)]
  · simp only [bigSepL_cons_cons, bigSepL_singleton]
    rw [inB_zero (b := Ring.bk 16 0) (s := Ring.sl 4 0) (by decide) (by decide), inB_zero (b := 1) (s := 1) (by decide) (by decide),
      inB_zero (b := 2) (s := 2) (by decide) (by decide), inB_zero (b := 3) (s := 3) (by decide) (by decide), inB_home (b := Ring.bk 16 (0 + 4)) (by decide)]
    rfl
  · simp only [bigSepL_cons_cons, bigSepL_singleton]
    rw [inB_done (b := Ring.bk 16 0) (by decide) (by decide), inB_fly (b := 1) (s := 1) (by decide) (by decide) (by decide) (by decide),
      inB_fly (b := 2) (s := 2) (by decide) (by decide) (by decide) (by decide), inB_fly (b := 3) (s := 3) (by decide) (by decide) (by decide) (by decide),
      inB_fly (b := Ring.bk 16 (0 + 4)) (s := Ring.sl 4 0) (by decide) (by decide) (by decide) (by decide)]
    rfl

/-- The result over one of the first four points. -/
theorem out_early {n : ℕ} (h : n < 4) :
    bigSep Finset.univ (outB A V n) ⊢ iprop((homeO c (Ring.bk 16 n) V ∗ freeO c (Ring.sl 4 n))
      ∗ (leaving A V (Ring.sl 4 n) (Ring.bk 16 n) -∗ bigSep Finset.univ (outB A V (n + 1)))) := by
  have v0 := bk_val (n := n) (by omega)
  refine family_step [Ring.bk 16 n] (by simp) _ _ (fun b hb => ?_) ?_ ?_
  · have h1 := ne_bk (n := n) (by omega) (by simpa using hb)
    unfold outB; rw [if_neg (by omega), if_neg (by omega), if_neg (by omega : ¬ n + 1 = 16), if_neg (by omega : ¬ b.val + 4 < n + 1)]
    by_cases a : b.val < n
    · rw [if_pos a, if_pos (by omega)]
    · rw [if_neg a, if_neg (by omega : ¬ b.val < n + 1)]
  · rw [bigSepL_singleton, outB_fresh (by omega) (by omega) (by omega) (sl_of_bk (by omega))]
  · rw [bigSepL_singleton, outB_fly (by omega) (by omega) (by omega) (sl_of_bk (by omega))]

/-- The result over a later point. -/
theorem out_step {n : ℕ} (h4 : 4 ≤ n) (h : n < 15) :
    bigSep Finset.univ (outB A V n) ⊢ iprop((leaving A V (Ring.sl 4 n) (Ring.bk 16 (n - 4)) ∗ homeO c (Ring.bk 16 n) V)
      ∗ ((doneO A V (Ring.bk 16 (n - 4)) ∗ leaving A V (Ring.sl 4 n) (Ring.bk 16 n)) -∗ bigSep Finset.univ (outB A V (n + 1)))) := by
  have v0 := bk_val (n := n) (by omega)
  have v4 := bk_val (n := n - 4) (by omega)
  have hs : Ring.sl 4 (n - 4) = Ring.sl 4 n := by rw [← sl_four (n - 4), Nat.sub_add_cancel h4]
  refine family_step [Ring.bk 16 (n - 4), Ring.bk 16 n] (List.nodup_cons.mpr ⟨by rw [List.mem_singleton]; exact bk_ne (by omega) (by omega) (by omega), List.nodup_singleton _⟩) _ _ (fun b hb => ?_) ?_ ?_
  · simp only [List.mem_cons, List.not_mem_nil, _root_.or_false, not_or] at hb
    have h1 := ne_bk (by omega) hb.1
    have h2 := ne_bk (by omega) hb.2
    unfold outB; rw [if_neg (by omega), if_neg (by omega : ¬ n + 1 = 16)]
    by_cases a : b.val + 4 < n
    · rw [if_pos a, if_pos (by omega)]
    · rw [if_neg a, if_neg (by omega : ¬ b.val + 4 < n + 1)]
      by_cases a' : b.val < n
      · rw [if_pos a', if_pos (by omega)]
      · rw [if_neg a', if_neg (by omega : ¬ b.val < n + 1)]
  · rw [bigSepL_cons_cons, bigSepL_singleton, outB_fly (by omega) (by omega) (by omega) ((sl_of_bk (by omega)).trans hs), outB_home (by omega) (by omega) (by omega)]
    rfl
  · rw [bigSepL_cons_cons, bigSepL_singleton, outB_done (by omega) (by omega), outB_fly (by omega) (by omega) (by omega) (sl_of_bk (by omega))]
    rfl

/-- The result over the last point. -/
theorem out_final :
    bigSep Finset.univ (outB A V 15) ⊢ iprop((leaving A V (Ring.sl 4 15) (Ring.bk 16 (15 - 4)) ∗ homeO c (Ring.bk 16 15) V ∗ leaving A V 0 12 ∗ leaving A V 1 13 ∗ leaving A V 2 14)
      ∗ ((doneO A V (Ring.bk 16 (15 - 4)) ∗ (doneO A V (Ring.bk 16 15) ∗ freeO c (Ring.sl 4 15)) ∗ (doneO A V 12 ∗ freeO c 0) ∗ (doneO A V 13 ∗ freeO c 1) ∗ (doneO A V 14 ∗ freeO c 2))
        -∗ bigSep Finset.univ (outB A V (15 + 1)))) := by
  refine family_step [Ring.bk 16 (15 - 4), Ring.bk 16 15, 12, 13, 14] (by decide) _ _ (fun b hb => ?_) ?_ ?_
  · have h5 : b.val < 11 := by
      simp only [List.mem_cons, List.not_mem_nil, _root_.or_false, not_or] at hb
      obtain ⟨a0, a1, a2, a3, a4⟩ := hb
      have e0 := ne_bk (n := 15 - 4) (by omega) a0
      have e1 := ne_bk (n := 15) (by omega) a1
      have e2 : b.val ≠ 12 := fun e => a2 (Fin.ext e)
      have e3 : b.val ≠ 13 := fun e => a3 (Fin.ext e)
      have e4 : b.val ≠ 14 := fun e => a4 (Fin.ext e)
      have := b.isLt
      omega
    rw [outB_done (by omega) (by omega), outB_end (by omega)]
  · simp only [bigSepL_cons_cons, bigSepL_singleton]
    rw [outB_fly (b := Ring.bk 16 (15 - 4)) (s := Ring.sl 4 15) (by decide) (by decide) (by decide) (by decide), outB_home (b := Ring.bk 16 15) (by decide) (by decide) (by decide),
      outB_fly (b := 12) (s := 0) (by decide) (by decide) (by decide) (by decide), outB_fly (b := 13) (s := 1) (by decide) (by decide) (by decide) (by decide),
      outB_fly (b := 14) (s := 2) (by decide) (by decide) (by decide) (by decide)]
    rfl
  · simp only [bigSepL_cons_cons, bigSepL_singleton]
    rw [outB_end (b := Ring.bk 16 (15 - 4)) (by decide), outB_last (b := Ring.bk 16 15) (s := Ring.sl 4 15) (by decide) (by decide),
      outB_last (b := 12) (s := 0) (by decide) (by decide), outB_last (b := 13) (s := 1) (by decide) (by decide), outB_last (b := 14) (s := 2) (by decide) (by decide)]
    rfl

/-- The positional table over the first point. -/
theorem pos_first :
    bigSep Finset.univ (posB A 0) ⊢ iprop((((∃ f, heldP c (Ring.sl 4 0) f) ∗ homeP c A.P (Ring.sl 4 0) ∗ cellZ c (pcell (Ring.sl 4 0)))
        ∗ ((∃ f, heldP c 1 f) ∗ homeP c A.P 1 ∗ cellZ c (pcell 1)) ∗ ((∃ f, heldP c 2 f) ∗ homeP c A.P 2 ∗ cellZ c (pcell 2))
        ∗ ((∃ f, heldP c 3 f) ∗ homeP c A.P 3 ∗ cellZ c (pcell 3)))
      ∗ (((resident A (Ring.sl 4 0) ∗ homeP c A.P (Ring.sl 4 0) ∗ cellZ c (pcell (Ring.sl 4 0))) ∗ (∃ f, flyP c A.P 1 f) ∗ (∃ f, flyP c A.P 2 f) ∗ (∃ f, flyP c A.P 3 f))
        -∗ bigSep Finset.univ (posB A 1))) := by
  refine family_step [Ring.sl 4 0, 1, 2, 3] (by decide) _ _ (fun b hb => absurd ((by decide : ∀ b : Fin 4, b ∈ [Ring.sl 4 0, 1, 2, 3]) b) hb) ?_ ?_
  · simp only [bigSepL_cons_cons, bigSepL_singleton]
    rw [posB_zero, posB_zero, posB_zero, posB_zero]
    rfl
  · simp only [bigSepL_cons_cons, bigSepL_singleton]
    rw [posB_in (j := Ring.sl 4 0) (by decide), posB_fly (j := 1) (by decide) (by decide), posB_fly (j := 2) (by decide) (by decide), posB_fly (j := 3) (by decide) (by decide)]
    rfl

theorem sl_val_small {n : ℕ} (h : n < 4) : (Ring.sl 4 n).val = n := Nat.mod_eq_of_lt h

/-- The positional table over one of the points 1, 2, 3. -/
theorem pos_early {n : ℕ} (h0 : 0 < n) (h : n < 4) :
    bigSep Finset.univ (posB A n) ⊢ iprop((∃ f, flyP c A.P (Ring.sl 4 n) f)
      ∗ ((resident A (Ring.sl 4 n) ∗ homeP c A.P (Ring.sl 4 n) ∗ cellZ c (pcell (Ring.sl 4 n))) -∗ bigSep Finset.univ (posB A (n + 1)))) := by
  have v := sl_val_small h
  refine family_step [Ring.sl 4 n] (by simp) _ _ (fun b hb => ?_) ?_ ?_
  · have h1 : b.val ≠ n := fun e => hb (by rw [List.mem_singleton]; exact Fin.ext (by rw [v, e]))
    unfold posB; rw [if_neg (by omega), if_neg (by omega : ¬ n + 1 = 0)]
    by_cases a : b.val < n
    · rw [if_pos a, if_pos (by omega)]
    · rw [if_neg a, if_neg (by omega)]
  · rw [bigSepL_singleton, posB_fly h0 (by omega)]
  · rw [bigSepL_singleton, posB_in (by omega)]

/-- The positional table over a later point. -/
theorem pos_later {n : ℕ} (h4 : 4 ≤ n) :
    bigSep Finset.univ (posB A n) ⊢ iprop((resident A (Ring.sl 4 n) ∗ homeP c A.P (Ring.sl 4 n) ∗ cellZ c (pcell (Ring.sl 4 n)))
      ∗ ((resident A (Ring.sl 4 n) ∗ homeP c A.P (Ring.sl 4 n) ∗ cellZ c (pcell (Ring.sl 4 n))) -∗ bigSep Finset.univ (posB A (n + 1)))) := by
  have v := (Ring.sl 4 n).isLt
  refine family_step [Ring.sl 4 n] (by simp) _ _ (fun b hb => ?_) ?_ ?_
  · have := b.isLt
    rw [posB_in (by omega), posB_in (by omega)]
  · rw [bigSepL_singleton, posB_in (by omega)]
  · rw [bigSepL_singleton, posB_in (by omega)]

end Cert.Kernel.Run

end
-- ==== Proof.Run.Step.lean ====
/- The body at any point takes what the kernel holds before it to what it holds after it. -/
module

public import proofs.«01_k».proof.Proof.Run.Phi

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable {c : Dev nD} {A : Args F c} {V : Ct F oM c}

theorem in_first' {n : ℕ} (h : n = 0) :
    bigSep Finset.univ (inB A n) ⊢ iprop(((homeX c A.X (Ring.bk 16 n) ∗ freeI c (Ring.sl 4 n)) ∗ (homeX c A.X 1 ∗ freeI c 1) ∗ (homeX c A.X 2 ∗ freeI c 2)
        ∗ (homeX c A.X 3 ∗ freeI c 3) ∗ homeX c A.X (Ring.bk 16 (n + 4)))
      ∗ ((homeX c A.X (Ring.bk 16 n) ∗ coming A 1 1 ∗ coming A 2 2 ∗ coming A 3 3 ∗ coming A (Ring.sl 4 n) (Ring.bk 16 (n + 4)))
        -∗ bigSep Finset.univ (inB A (n + 1)))) := by subst h; exact in_first
theorem pos_first' {n : ℕ} (h : n = 0) :
    bigSep Finset.univ (posB A n) ⊢ iprop((((∃ f, heldP c (Ring.sl 4 n) f) ∗ homeP c A.P (Ring.sl 4 n) ∗ cellZ c (pcell (Ring.sl 4 n)))
        ∗ ((∃ f, heldP c 1 f) ∗ homeP c A.P 1 ∗ cellZ c (pcell 1)) ∗ ((∃ f, heldP c 2 f) ∗ homeP c A.P 2 ∗ cellZ c (pcell 2))
        ∗ ((∃ f, heldP c 3 f) ∗ homeP c A.P 3 ∗ cellZ c (pcell 3)))
      ∗ (((resident A (Ring.sl 4 n) ∗ homeP c A.P (Ring.sl 4 n) ∗ cellZ c (pcell (Ring.sl 4 n))) ∗ (∃ f, flyP c A.P 1 f) ∗ (∃ f, flyP c A.P 2 f) ∗ (∃ f, flyP c A.P 3 f))
        -∗ bigSep Finset.univ (posB A (n + 1)))) := by subst h; exact pos_first
theorem out_final' {n : ℕ} (h : n = 15) :
    bigSep Finset.univ (outB A V n) ⊢ iprop((leaving A V (Ring.sl 4 n) (Ring.bk 16 (n - 4)) ∗ homeO c (Ring.bk 16 n) V ∗ leaving A V 0 12 ∗ leaving A V 1 13 ∗ leaving A V 2 14)
      ∗ ((doneO A V (Ring.bk 16 (n - 4)) ∗ (doneO A V (Ring.bk 16 n) ∗ freeO c (Ring.sl 4 n)) ∗ (doneO A V 12 ∗ freeO c 0) ∗ (doneO A V 13 ∗ freeO c 1) ∗ (doneO A V 14 ∗ freeO c 2))
        -∗ bigSep Finset.univ (outB A V (n + 1)))) := by subst h; exact out_final
theorem tab_zero {n : ℕ} (h : n = 0) : tabB A n = tabStart A := if_pos h
theorem tab_pos {n : ℕ} (h : ¬ n = 0) : tabB A n = tabRest A := if_neg h

set_option backward.isDefEq.respectTransparency.types false in
/-- A middle point. -/
theorem stepMid (i : grid0.Coords) (h4 : 4 ≤ pt i) (h12 : pt i + 4 < 16) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  unfold Φ
  rw [tab_pos (by omega : ¬ pt i = 0), tab_pos (by omega : ¬ pt i + 1 = 0)]
  unfold tabRest
  iintro ⟨⟨HI, HO, HP, HT⟩, HW, Hk⟩
  ihave HI2 := in_step (A := A) (n := pt i) (by omega) h12 $$ HI
  icases HI2 with ⟨⟨Hin, Hx⟩, HIk⟩
  ihave HO2 := out_step (A := A) (V := V) (n := pt i) h4 (by omega) $$ HO
  icases HO2 with ⟨⟨Hout, Ho⟩, HOk⟩
  ihave HP2 := pos_later (A := A) (n := pt i) (by omega) $$ HP
  icases HP2 with ⟨⟨Hres, Hph, Hpc⟩, HPk⟩
  icases HT with ⟨Htab, HT⟩
  iapply (runMid i c h4 h12 A V W Q)
  isplitl [Hin Hx Hout Ho Hres Htab HW]
  · isplitl [Hin]; · iexact Hin
    isplitl [Hx]; · iexact Hx
    isplitl [Hout]; · iexact Hout
    isplitl [Ho]; · iexact Ho
    isplitl [Hres]; · iexact Hres
    isplitl [Htab]; · iexact Htab
    iexact HW
  iintro ⟨Hx, Hin, Ho, Hout, Hres, Htab, HW⟩
  iapply Hk
  isplitr [HW]
  · isplitl [HIk Hx Hin]
    · iapply HIk
      isplitl [Hx]; · iexact Hx
      iexact Hin
    isplitl [HOk Ho Hout]
    · iapply HOk
      isplitl [Ho]; · iexact Ho
      iexact Hout
    isplitl [HPk Hres Hph Hpc]
    · iapply HPk
      isplitl [Hres]; · iexact Hres
      isplitl [Hph]; · iexact Hph
      iexact Hpc
    isplitl [Htab]; · iexact Htab
    iexact HT
  iexact HW

set_option backward.isDefEq.respectTransparency.types false in
/-- One of the points 1, 2, 3. -/
theorem stepEarly (i : grid0.Coords) (h1 : ¬ pt i = 0) (h3 : pt i < 4) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  unfold Φ
  rw [tab_pos (by omega : ¬ pt i = 0), tab_pos (by omega : ¬ pt i + 1 = 0)]
  unfold tabRest
  iintro ⟨⟨HI, HO, HP, HT⟩, HW, Hk⟩
  ihave HI2 := in_step (A := A) (n := pt i) (by omega) (by omega) $$ HI
  icases HI2 with ⟨⟨Hin, Hx⟩, HIk⟩
  ihave HO2 := out_early (A := A) (V := V) (n := pt i) h3 $$ HO
  icases HO2 with ⟨⟨Ho, Hout⟩, HOk⟩
  ihave HP2 := pos_early (A := A) (n := pt i) (by omega) h3 $$ HP
  icases HP2 with ⟨Hpf, HPk⟩
  icases HT with ⟨Htab, HT⟩
  iapply (runEarly i c h1 h3 A V W Q)
  isplitl [Hin Hx Hout Ho Hpf Htab HW]
  · isplitl [Hin]; · iexact Hin
    isplitl [Hx]; · iexact Hx
    isplitl [Hout]; · iexact Hout
    isplitl [Ho]; · iexact Ho
    isplitl [Hpf]; · iexact Hpf
    isplitl [Htab]; · iexact Htab
    iexact HW
  iintro ⟨Hx, Hin, Hout, Hres, Hph, Hpc, Htab, HW⟩
  iapply Hk
  isplitr [HW]
  · isplitl [HIk Hx Hin]
    · iapply HIk
      isplitl [Hx]; · iexact Hx
      iexact Hin
    isplitl [HOk Hout]
    · iapply HOk
      iexact Hout
    isplitl [HPk Hres Hph Hpc]
    · iapply HPk
      isplitl [Hres]; · iexact Hres
      isplitl [Hph]; · iexact Hph
      iexact Hpc
    isplitl [Htab]; · iexact Htab
    iexact HT
  iexact HW

set_option backward.isDefEq.respectTransparency.types false in
/-- One of the points 12, 13, 14. -/
theorem stepLate (i : grid0.Coords) (h12 : 12 ≤ pt i) (h15 : pt i < 15) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  unfold Φ
  rw [tab_pos (by omega : ¬ pt i = 0), tab_pos (by omega : ¬ pt i + 1 = 0)]
  unfold tabRest
  iintro ⟨⟨HI, HO, HP, HT⟩, HW, Hk⟩
  ihave HI2 := in_late (A := A) (n := pt i) h12 (by omega) $$ HI
  icases HI2 with ⟨Hin, HIk⟩
  ihave HO2 := out_step (A := A) (V := V) (n := pt i) (by omega) h15 $$ HO
  icases HO2 with ⟨⟨Hout, Ho⟩, HOk⟩
  ihave HP2 := pos_later (A := A) (n := pt i) (by omega) $$ HP
  icases HP2 with ⟨⟨Hres, Hph, Hpc⟩, HPk⟩
  icases HT with ⟨Htab, HT⟩
  iapply (runLate i c h12 h15 A V W Q)
  isplitl [Hin Hout Ho Hres Htab HW]
  · isplitl [Hin]; · iexact Hin
    isplitl [Hout]; · iexact Hout
    isplitl [Ho]; · iexact Ho
    isplitl [Hres]; · iexact Hres
    isplitl [Htab]; · iexact Htab
    iexact HW
  iintro ⟨Hx, Hin, Ho, Hout, Hres, Htab, HW⟩
  iapply Hk
  isplitr [HW]
  · isplitl [HIk Hx Hin]
    · iapply HIk
      isplitl [Hx]; · iexact Hx
      iexact Hin
    isplitl [HOk Ho Hout]
    · iapply HOk
      isplitl [Ho]; · iexact Ho
      iexact Hout
    isplitl [HPk Hres Hph Hpc]
    · iapply HPk
      isplitl [Hres]; · iexact Hres
      isplitl [Hph]; · iexact Hph
      iexact Hpc
    isplitl [Htab]; · iexact Htab
    iexact HT
  iexact HW

set_option backward.isDefEq.respectTransparency.types false in
/-- The last point. -/
theorem stepLast (i : grid0.Coords) (h15 : pt i = 15) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  unfold Φ
  rw [tab_pos (by omega : ¬ pt i = 0), tab_pos (by omega : ¬ pt i + 1 = 0)]
  unfold tabRest
  iintro ⟨⟨HI, HO, HP, HT⟩, HW, Hk⟩
  ihave HI2 := in_late (A := A) (n := pt i) (by omega) (by omega) $$ HI
  icases HI2 with ⟨Hin, HIk⟩
  ihave HO2 := out_final' (A := A) (V := V) h15 $$ HO
  icases HO2 with ⟨⟨Hout, Ho, Ha, Hb, Hc⟩, HOk⟩
  ihave HP2 := pos_later (A := A) (n := pt i) (by omega) $$ HP
  icases HP2 with ⟨⟨Hres, Hph, Hpc⟩, HPk⟩
  icases HT with ⟨Htab, HT⟩
  iapply (runLast i c h15 A V W Q)
  isplitl [Hin Hout Ho Hres Htab Ha Hb Hc HW]
  · isplitl [Hin]; · iexact Hin
    isplitl [Hout]; · iexact Hout
    isplitl [Ho]; · iexact Ho
    isplitl [Hres]; · iexact Hres
    isplitl [Htab]; · iexact Htab
    isplitl [Ha]; · iexact Ha
    isplitl [Hb]; · iexact Hb
    isplitl [Hc]; · iexact Hc
    iexact HW
  iintro ⟨Hx, Hin, Ho, Hn, Hf, Hres, Htab, Ha, Hb, Hc, Hfa, Hfb, Hfc, HW⟩
  iapply Hk
  isplitr [HW]
  · isplitl [HIk Hx Hin]
    · iapply HIk
      isplitl [Hx]; · iexact Hx
      iexact Hin
    isplitl [HOk Ho Hn Hf Ha Hfa Hb Hfb Hc Hfc]
    · iapply HOk
      isplitl [Ho]; · iexact Ho
      isplitl [Hn Hf]
      · isplitl [Hn]; · iexact Hn
        iexact Hf
      isplitl [Ha Hfa]
      · isplitl [Ha]; · iexact Ha
        iexact Hfa
      isplitl [Hb Hfb]
      · isplitl [Hb]; · iexact Hb
        iexact Hfb
      isplitl [Hc]; · iexact Hc
      iexact Hfc
    isplitl [HPk Hres Hph Hpc]
    · iapply HPk
      isplitl [Hres]; · iexact Hres
      isplitl [Hph]; · iexact Hph
      iexact Hpc
    isplitl [Htab]; · iexact Htab
    iexact HT
  iexact HW

set_option backward.isDefEq.respectTransparency.types false in
/-- The first point. -/
theorem stepFirst (i : grid0.Coords) (h0 : pt i = 0) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  unfold Φ
  rw [tab_zero h0, tab_pos (by omega : ¬ pt i + 1 = 0)]
  unfold tabStart tabRest
  iintro ⟨⟨HI, HO, HP, HT⟩, HW, Hk⟩
  ihave HI2 := in_first' (A := A) h0 $$ HI
  icases HI2 with ⟨⟨⟨Hx0, Hi0⟩, ⟨Hx1, Hi1⟩, ⟨Hx2, Hi2⟩, ⟨Hx3, Hi3⟩, Hx4⟩, HIk⟩
  ihave HO2 := out_early (A := A) (V := V) (n := pt i) (by omega) $$ HO
  icases HO2 with ⟨⟨Ho, Hout⟩, HOk⟩
  ihave HP2 := pos_first' (A := A) h0 $$ HP
  icases HP2 with ⟨⟨Hp0, Hp1, Hp2, Hp3⟩, HPk⟩
  icases HT with ⟨Hm, Hs, Hg, Hb⟩
  iapply (runFirst i c h0 A V W Q)
  isplitl [Hi0 Hi1 Hi2 Hi3 Hx0 Hx1 Hx2 Hx3 Hx4 Hout Ho Hp0 Hp1 Hp2 Hp3 Hm Hs Hg Hb HW]
  · isplitl [Hi0]; · iexact Hi0
    isplitl [Hi1]; · iexact Hi1
    isplitl [Hi2]; · iexact Hi2
    isplitl [Hi3]; · iexact Hi3
    isplitl [Hx0]; · iexact Hx0
    isplitl [Hx1]; · iexact Hx1
    isplitl [Hx2]; · iexact Hx2
    isplitl [Hx3]; · iexact Hx3
    isplitl [Hx4]; · iexact Hx4
    isplitl [Hout]; · iexact Hout
    isplitl [Ho]; · iexact Ho
    isplitl [Hp0]; · iexact Hp0
    isplitl [Hp1]; · iexact Hp1
    isplitl [Hp2]; · iexact Hp2
    isplitl [Hp3]; · iexact Hp3
    isplitl [Hm]; · iexact Hm
    isplitl [Hs]; · iexact Hs
    isplitl [Hg]; · iexact Hg
    isplitl [Hb]; · iexact Hb
    iexact HW
  iintro ⟨Hx0, Hc1, Hc2, Hc3, Hc4, Hout, Hres, Hph, Hpc, Hp1, Hp2, Hp3, Htab, Hm, Hs, Hg, Hb, HW⟩
  iapply Hk
  isplitr [HW]
  · isplitl [HIk Hx0 Hc1 Hc2 Hc3 Hc4]
    · iapply HIk
      isplitl [Hx0]; · iexact Hx0
      isplitl [Hc1]; · iexact Hc1
      isplitl [Hc2]; · iexact Hc2
      isplitl [Hc3]; · iexact Hc3
      iexact Hc4
    isplitl [HOk Hout]
    · iapply HOk
      iexact Hout
    isplitl [HPk Hres Hph Hpc Hp1 Hp2 Hp3]
    · iapply HPk
      isplitl [Hres Hph Hpc]
      · isplitl [Hres]; · iexact Hres
        isplitl [Hph]; · iexact Hph
        iexact Hpc
      isplitl [Hp1]; · iexact Hp1
      isplitl [Hp2]; · iexact Hp2
      iexact Hp3
    isplitl [Htab]; · iexact Htab
    isplitl [Hm]; · iexact Hm
    isplitl [Hs]; · iexact Hs
    isplitl [Hg]; · iexact Hg
    iexact Hb
  iexact HW

set_option backward.isDefEq.respectTransparency.types false in
/-- Any point. -/
theorem stepAny (i : grid0.Coords) (W : Waits sig Unit) (Q : PUnit → sProp 𝕄) :
    iprop(Φ A V (pt i) ∗ owes (c : Thread nD τ) 0 W ∗ ((Φ A V (pt i + 1) ∗ ∃ W, owes (c : Thread nD τ) 0 W) -∗ Q ⟨⟩))
      ⊢ wp frame (wpE (defs₀ (F := F)) 𝒱₀ (c : Thread nD τ) none) Set.univ (bodyG (F := F) i) Q := by
  have hlt := pt_lt i
  by_cases h0 : pt i = 0
  · exact stepFirst i h0 W Q
  by_cases h4 : pt i < 4
  · exact stepEarly i h0 h4 W Q
  by_cases h12 : pt i + 4 < 16
  · exact stepMid i (by omega) h12 W Q
  by_cases h15 : pt i < 15
  · exact stepLate i (by omega) h15 W Q
  · exact stepLast i (by omega) W Q

end Cert.Kernel.Run

end
-- ==== Proof.Run.Split.lean ====
/- The launch's whole buffers as the pieces the kernel holds, and back. -/
module

public import proofs.«01_k».proof.Proof.Run.Step
public import Idealize.ShloMosaic.Lib.ValueIdxCore

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The pieces' elements -/

abbrev blkSet (b : Fin 16) : Finset S16384x1024.Idx := (Rect.unit (s := S16384x1024) (blkOff b) S1024x1024.size (blkOff_inb b)).set
abbrev partSet (j : Fin 4) : Finset S4096x1024.Idx := (Rect.unit (s := S4096x1024) (partOff j) S1024x1024.size (partOff_inb j)).set
abbrev slotSet (s : Fin 4) : Finset S4x1024x1024.Idx := (Rect.unit (s := S4x1024x1024) (slotOff s) S1x1024x1024.size (slotOff_inb s)).set

theorem xblk_set (b : Fin 16) : (xblk b).view.set = blkSet b := View.set_slice_whole _ _
theorem oblk_set (b : Fin 16) : (oblk b).view.set = blkSet b := View.set_slice_whole _ _
theorem pchk_set (j : Fin 4) : (pchk j).view.set = partSet j := View.set_slice_whole _ _
theorem pbuf_set (j : Fin 4) : (pbuf j).view.set = partSet j := View.set_slice_whole _ _
theorem islot_set (s : Fin 4) : (islot s).view.set = slotSet s := (View.set_reshape _ _).trans (View.set_slice_whole _ _)
theorem oslot_set (s : Fin 4) : (oslot s).view.set = slotSet s := (View.set_reshape _ _).trans (View.set_slice_whole _ _)

theorem mem_blkSet (b : Fin 16) (y : S16384x1024.Idx) : y ∈ blkSet b ↔ (y 0).val / 1024 = b.val := by
  rw [Rect.mem_set_unit]
  have h1 : (y 1).val < 1024 := (y 1).isLt
  constructor
  · intro H; have a0 : b.val * 1024 ≤ (y 0).val ∧ (y 0).val < b.val * 1024 + 1024 := H 0; omega
  · intro H i; fin_cases i
    · show b.val * 1024 ≤ (y 0).val ∧ (y 0).val < b.val * 1024 + 1024; omega
    · show 0 ≤ (y 1).val ∧ (y 1).val < 0 + 1024; omega
theorem mem_partSet (j : Fin 4) (y : S4096x1024.Idx) : y ∈ partSet j ↔ (y 0).val / 1024 = j.val := by
  rw [Rect.mem_set_unit]
  have h1 : (y 1).val < 1024 := (y 1).isLt
  constructor
  · intro H; have a0 : j.val * 1024 ≤ (y 0).val ∧ (y 0).val < j.val * 1024 + 1024 := H 0; omega
  · intro H i; fin_cases i
    · show j.val * 1024 ≤ (y 0).val ∧ (y 0).val < j.val * 1024 + 1024; omega
    · show 0 ≤ (y 1).val ∧ (y 1).val < 0 + 1024; omega
theorem mem_slotSet (s : Fin 4) (y : S4x1024x1024.Idx) : y ∈ slotSet s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

theorem blk_disjoint : ∀ b b' : Fin 16, b ≠ b' → Disjoint (blkSet b) (blkSet b') := by
  intro b b' hne; rw [Finset.disjoint_left]; intro y hy hy'; rw [mem_blkSet] at hy hy'; exact hne (Fin.ext (hy.symm.trans hy'))
theorem part_disjoint : ∀ b b' : Fin 4, b ≠ b' → Disjoint (partSet b) (partSet b') := by
  intro b b' hne; rw [Finset.disjoint_left]; intro y hy hy'; rw [mem_partSet] at hy hy'; exact hne (Fin.ext (hy.symm.trans hy'))
theorem slot_disjoint : ∀ b b' : Fin 4, b ≠ b' → Disjoint (slotSet b) (slotSet b') := by
  intro b b' hne; rw [Finset.disjoint_left]; intro y hy hy'; rw [mem_slotSet] at hy hy'; exact hne (Fin.ext (hy.symm.trans hy'))
/-- The block a row of the input lies in. -/
def blkOf (y : S16384x1024.Idx) : Fin 16 := ⟨(y 0).val / 1024, by have : (y 0).val < 16384 := (y 0).isLt; omega⟩
theorem blk_cover : (Finset.univ : Finset (Fin 16)).biUnion blkSet = Finset.univ := by
  ext y; simp only [Finset.mem_biUnion, Finset.mem_univ, true_and, iff_true]
  exact ⟨blkOf y, (mem_blkSet _ y).mpr rfl⟩
theorem part_cover : (Finset.univ : Finset (Fin 4)).biUnion partSet = Finset.univ := by
  ext y; simp only [Finset.mem_biUnion, Finset.mem_univ, true_and, iff_true]
  exact ⟨⟨(y 0).val / 1024, by have : (y 0).val < 4096 := (y 0).isLt; omega⟩, (mem_partSet _ y).mpr rfl⟩
theorem slot_cover : (Finset.univ : Finset (Fin 4)).biUnion slotSet = Finset.univ := by
  ext y; simp only [Finset.mem_biUnion, Finset.mem_univ, true_and, iff_true]
  exact ⟨⟨(y 0).val, (y 0).isLt⟩, (mem_slotSet _ y).mpr rfl⟩

/-- The rows of the small buffer: the segment rows, the scale's, the shift's. -/
def rowSet (k : Fin 3) : Finset S4x1024.Idx :=
  match k with
  | ⟨0, _⟩ => sgS.view.set
  | ⟨1, _⟩ => sgG.view.set
  | ⟨2, _⟩ => sgB.view.set
theorem mem_sgS (y : S4x1024.Idx) : y ∈ rowSet 0 ↔ (y 0).val < 2 := by
  rw [show rowSet 0 = (Rect.unit (s := S4x1024) ![0, 0] S2x1024.size inb_S4x1024_S2x1024_0_0).set from View.set_slice_whole _ _, Rect.mem_set_unit]
  have h1 : (y 1).val < 1024 := (y 1).isLt
  constructor
  · intro H; have a0 : 0 ≤ (y 0).val ∧ (y 0).val < 0 + 2 := H 0; omega
  · intro H i; fin_cases i
    · show 0 ≤ (y 0).val ∧ (y 0).val < 0 + 2; omega
    · show 0 ≤ (y 1).val ∧ (y 1).val < 0 + 1024; omega
theorem mem_sgG (y : S4x1024.Idx) : y ∈ rowSet 1 ↔ (y 0).val = 2 := by
  rw [show rowSet 1 = (Rect.unit (s := S4x1024) ![2, 0] S1x1024.size inb_S4x1024_S1x1024_2_0).set from View.set_slice_whole _ _, Rect.mem_set_unit]
  have h1 : (y 1).val < 1024 := (y 1).isLt
  constructor
  · intro H; have a0 : 2 ≤ (y 0).val ∧ (y 0).val < 2 + 1 := H 0; omega
  · intro H i; fin_cases i
    · show 2 ≤ (y 0).val ∧ (y 0).val < 2 + 1; omega
    · show 0 ≤ (y 1).val ∧ (y 1).val < 0 + 1024; omega
theorem mem_sgB (y : S4x1024.Idx) : y ∈ rowSet 2 ↔ (y 0).val = 3 := by
  rw [show rowSet 2 = (Rect.unit (s := S4x1024) ![3, 0] S1x1024.size inb_S4x1024_S1x1024_3_0).set from View.set_slice_whole _ _, Rect.mem_set_unit]
  have h1 : (y 1).val < 1024 := (y 1).isLt
  constructor
  · intro H; have a0 : 3 ≤ (y 0).val ∧ (y 0).val < 3 + 1 := H 0; omega
  · intro H i; fin_cases i
    · show 3 ≤ (y 0).val ∧ (y 0).val < 3 + 1; omega
    · show 0 ≤ (y 1).val ∧ (y 1).val < 0 + 1024; omega
theorem mem_rowSet (k : Fin 3) (y : S4x1024.Idx) : y ∈ rowSet k ↔ (y 0).val - 1 = k.val := by
  have h0 : (y 0).val < 4 := (y 0).isLt
  match k with
  | ⟨0, _⟩ => exact (mem_sgS y).trans (by show _ ↔ (y 0).val - 1 = 0; omega)
  | ⟨1, _⟩ => exact (mem_sgG y).trans (by show _ ↔ (y 0).val - 1 = 1; omega)
  | ⟨2, _⟩ => exact (mem_sgB y).trans (by show _ ↔ (y 0).val - 1 = 2; omega)
theorem row_disjoint : ∀ b b' : Fin 3, b ≠ b' → Disjoint (rowSet b) (rowSet b') := by
  intro b b' hne; rw [Finset.disjoint_left]; intro y hy hy'; rw [mem_rowSet] at hy hy'; exact hne (Fin.ext (hy.symm.trans hy'))
theorem row_cover : (Finset.univ : Finset (Fin 3)).biUnion rowSet = Finset.univ := by
  ext y; simp only [Finset.mem_biUnion, Finset.mem_univ, true_and, iff_true]
  exact ⟨⟨(y 0).val - 1, by have : (y 0).val < 4 := (y 0).isLt; omega⟩, (mem_rowSet _ y).mpr rfl⟩

/-! ## Whole buffers split and joined -/

theorem four (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ
theorem three (Ψ : Fin 3 → sProp 𝕄) : bigSep Finset.univ Ψ = iprop(Ψ 0 ∗ Ψ 1 ∗ Ψ 2) :=
  bigSep_univ_eq_bigSepL [(0 : Fin 3), 1, 2] (by decide) (by decide) Ψ

/-- A whole buffer, held. -/
abbrev wholeP (c : Dev nD) (b : Ref sig .tc) (f : Buf (Elt F) ((c : Thread nD τ).loc b)) : sProp 𝕄 := ((c : Thread nD τ).loc b) ↦{fullShare} f

theorem x_split (c : Dev nD) (f : Ct F xM c) : (wholeP c main_call0_v0 f : sProp 𝕄) = bigSep Finset.univ (homeX c f) := by
  refine (Ring.pointsTo_blocks (Ix := Unit) (Name := ℕ) (U := UU nD τ) (Lvl := ℕ) (q := fullShare) (ℓ := (c : Thread nD τ).loc main_call0_v0) blkSet blk_disjoint blk_cover f).trans ?_
  exact bigSep_congr fun b _ => congrArg (fun S => (_ ↦[S]{fullShare} f : sProp 𝕄)) (xblk_set b).symm
theorem o_split (c : Dev nD) (f : Ct F oM c) : (wholeP c main_call0_v4 f : sProp 𝕄) = bigSep Finset.univ (fun b => homeO c b f) := by
  refine (Ring.pointsTo_blocks (Ix := Unit) (Name := ℕ) (U := UU nD τ) (Lvl := ℕ) (q := fullShare) (ℓ := (c : Thread nD τ).loc main_call0_v4) blkSet blk_disjoint blk_cover f).trans ?_
  exact bigSep_congr fun b _ => congrArg (fun S => (_ ↦[S]{fullShare} f : sProp 𝕄)) (oblk_set b).symm
theorem p_split (c : Dev nD) (f : Ct F posM c) : (wholeP c main_arg2 f : sProp 𝕄) = bigSep Finset.univ (homeP c f) := by
  refine (Ring.pointsTo_blocks (Ix := Unit) (Name := ℕ) (U := UU nD τ) (Lvl := ℕ) (q := fullShare) (ℓ := (c : Thread nD τ).loc main_arg2) partSet part_disjoint part_cover f).trans ?_
  exact bigSep_congr fun b _ => congrArg (fun S => (_ ↦[S]{fullShare} f : sProp 𝕄)) (pchk_set b).symm

theorem heldI_eq (c : Dev nD) (s : Fin 4) (f) : heldI c s f = (((c : Thread nD τ).loc cc0_scratch0) ↦[slotSet s]{fullShare} f : sProp 𝕄) :=
  congrArg (fun S => (_ ↦[S]{fullShare} f : sProp 𝕄)) (islot_set s)
theorem heldO_eq (c : Dev nD) (s : Fin 4) (f) : heldO c s f = (((c : Thread nD τ).loc cc0_scratch1) ↦[slotSet s]{fullShare} f : sProp 𝕄) :=
  congrArg (fun S => (_ ↦[S]{fullShare} f : sProp 𝕄)) (oslot_set s)
theorem heldP_eq (c : Dev nD) (s : Fin 4) (f) : heldP c s f = (((c : Thread nD τ).loc cc0_scratch2) ↦[partSet s]{fullShare} f : sProp 𝕄) :=
  congrArg (fun S => (_ ↦[S]{fullShare} f : sProp 𝕄)) (pbuf_set s)
theorem heldS_eq (c : Dev nD) (f : Ct F sgM c) : held c sgS f = (((c : Thread nD τ).loc cc0_scratch4) ↦[rowSet 0]{fullShare} f : sProp 𝕄) := rfl
theorem heldG_eq (c : Dev nD) (f : Ct F sgM c) : held c sgG f = (((c : Thread nD τ).loc cc0_scratch4) ↦[rowSet 1]{fullShare} f : sProp 𝕄) := rfl
theorem heldB_eq (c : Dev nD) (f : Ct F sgM c) : held c sgB f = (((c : Thread nD τ).loc cc0_scratch4) ↦[rowSet 2]{fullShare} f : sProp 𝕄) := rfl

theorem ibuf_split (c : Dev nD) : iprop(∃ f : Buf (Elt F) ((c : Thread nD τ).loc cc0_scratch0), ((c : Thread nD τ).loc cc0_scratch0) ↦{fullShare} f) ⊢ (iprop((∃ f, heldI c 0 f) ∗ (∃ f, heldI c 1 f) ∗ (∃ f, heldI c 2 f) ∗ (∃ f, heldI c 3 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) slotSet slot_disjoint slot_cover f).trans (four _))) $$ H
  icases H2 with ⟨H0, H1, H2, H3⟩
  isplitl [H0]; · iexists f; iapply (Entails.of_eq (heldI_eq c 0 f).symm); iexact H0
  isplitl [H1]; · iexists f; iapply (Entails.of_eq (heldI_eq c 1 f).symm); iexact H1
  isplitl [H2]; · iexists f; iapply (Entails.of_eq (heldI_eq c 2 f).symm); iexact H2
  iexists f; iapply (Entails.of_eq (heldI_eq c 3 f).symm); iexact H3
theorem ibuf_join (c : Dev nD) : iprop((∃ f, heldI c 0 f) ∗ (∃ f, heldI c 1 f) ∗ (∃ f, heldI c 2 f) ∗ (∃ f, heldI c 3 f)) ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slot_disjoint slot_cover f0)
  irw [four]
  isplitl [H0]; · iexists f0; iapply (Entails.of_eq (heldI_eq c 0 f0)); iexact H0
  isplitl [H1]; · iexists f1; iapply (Entails.of_eq (heldI_eq c 1 f1)); iexact H1
  isplitl [H2]; · iexists f2; iapply (Entails.of_eq (heldI_eq c 2 f2)); iexact H2
  iexists f3; iapply (Entails.of_eq (heldI_eq c 3 f3)); iexact H3
theorem obuf_split (c : Dev nD) : iprop(∃ f : Buf (Elt F) ((c : Thread nD τ).loc cc0_scratch1), ((c : Thread nD τ).loc cc0_scratch1) ↦{fullShare} f) ⊢ (iprop((∃ f, heldO c 0 f) ∗ (∃ f, heldO c 1 f) ∗ (∃ f, heldO c 2 f) ∗ (∃ f, heldO c 3 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) slotSet slot_disjoint slot_cover f).trans (four _))) $$ H
  icases H2 with ⟨H0, H1, H2, H3⟩
  isplitl [H0]; · iexists f; iapply (Entails.of_eq (heldO_eq c 0 f).symm); iexact H0
  isplitl [H1]; · iexists f; iapply (Entails.of_eq (heldO_eq c 1 f).symm); iexact H1
  isplitl [H2]; · iexists f; iapply (Entails.of_eq (heldO_eq c 2 f).symm); iexact H2
  iexists f; iapply (Entails.of_eq (heldO_eq c 3 f).symm); iexact H3
theorem obuf_join (c : Dev nD) : iprop((∃ f, heldO c 0 f) ∗ (∃ f, heldO c 1 f) ∗ (∃ f, heldO c 2 f) ∗ (∃ f, heldO c 3 f)) ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) slotSet slot_disjoint slot_cover f0)
  irw [four]
  isplitl [H0]; · iexists f0; iapply (Entails.of_eq (heldO_eq c 0 f0)); iexact H0
  isplitl [H1]; · iexists f1; iapply (Entails.of_eq (heldO_eq c 1 f1)); iexact H1
  isplitl [H2]; · iexists f2; iapply (Entails.of_eq (heldO_eq c 2 f2)); iexact H2
  iexists f3; iapply (Entails.of_eq (heldO_eq c 3 f3)); iexact H3
theorem pbufs_split (c : Dev nD) : iprop(∃ f : Buf (Elt F) ((c : Thread nD τ).loc cc0_scratch2), ((c : Thread nD τ).loc cc0_scratch2) ↦{fullShare} f) ⊢ (iprop((∃ f, heldP c 0 f) ∗ (∃ f, heldP c 1 f) ∗ (∃ f, heldP c 2 f) ∗ (∃ f, heldP c 3 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch2) partSet part_disjoint part_cover f).trans (four _))) $$ H
  icases H2 with ⟨H0, H1, H2, H3⟩
  isplitl [H0]; · iexists f; iapply (Entails.of_eq (heldP_eq c 0 f).symm); iexact H0
  isplitl [H1]; · iexists f; iapply (Entails.of_eq (heldP_eq c 1 f).symm); iexact H1
  isplitl [H2]; · iexists f; iapply (Entails.of_eq (heldP_eq c 2 f).symm); iexact H2
  iexists f; iapply (Entails.of_eq (heldP_eq c 3 f).symm); iexact H3
theorem pbufs_join (c : Dev nD) : iprop((∃ f, heldP c 0 f) ∗ (∃ f, heldP c 1 f) ∗ (∃ f, heldP c 2 f) ∗ (∃ f, heldP c 3 f)) ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) partSet part_disjoint part_cover f0)
  irw [four]
  isplitl [H0]; · iexists f0; iapply (Entails.of_eq (heldP_eq c 0 f0)); iexact H0
  isplitl [H1]; · iexists f1; iapply (Entails.of_eq (heldP_eq c 1 f1)); iexact H1
  isplitl [H2]; · iexists f2; iapply (Entails.of_eq (heldP_eq c 2 f2)); iexact H2
  iexists f3; iapply (Entails.of_eq (heldP_eq c 3 f3)); iexact H3
theorem rows_split (c : Dev nD) : iprop(∃ f : Buf (Elt F) ((c : Thread nD τ).loc cc0_scratch4), ((c : Thread nD τ).loc cc0_scratch4) ↦{fullShare} f) ⊢ (iprop((∃ f, held (F := F) c sgS f) ∗ (∃ f, held (F := F) c sgG f) ∗ (∃ f, held (F := F) c sgB f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch4) rowSet row_disjoint row_cover f).trans (three _))) $$ H
  icases H2 with ⟨H0, H1, H2⟩
  isplitl [H0]; · iexists f; iapply (Entails.of_eq (heldS_eq c f).symm); iexact H0
  isplitl [H1]; · iexists f; iapply (Entails.of_eq (heldG_eq c f).symm); iexact H1
  iexists f; iapply (Entails.of_eq (heldB_eq c f).symm); iexact H2
theorem rows_join (c : Dev nD) : iprop((∃ f, held (F := F) c sgS f) ∗ (∃ f, held (F := F) c sgG f) ∗ (∃ f, held (F := F) c sgB f)) ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch4) rowSet row_disjoint row_cover f0)
  irw [three]
  isplitl [H0]; · iexists f0; iapply (Entails.of_eq (heldS_eq c f0)); iexact H0
  isplitl [H1]; · iexists f1; iapply (Entails.of_eq (heldG_eq c f1)); iexact H1
  iexists f2; iapply (Entails.of_eq (heldB_eq c f2)); iexact H2

/-- A buffer held through a memref that is the whole of it. -/
theorem held_whole (c : Dev nD) (b : Ref sig .tc) (f : Buf (Elt F) ((c : Thread nD τ).loc b)) :
    (((c : Thread nD τ).loc b) ↦[(View.whole b : View sig .tc _ _ _).set]{fullShare} f : sProp 𝕄) = wholeP c b f :=
  congrArg (fun S => (((c : Thread nD τ).loc b) ↦[S]{fullShare} f : sProp 𝕄)) (View.set_whole b)

/-! ## The result whole -/

variable {c : Dev nD} (A : Args F c) (V : Ct F oM c)

/-- The result array: each row's block, at the row within the block. -/
def resA : Ct F oM c := fun y =>
  val A (blkOf y) (ValueIdx.ix2 ⟨(y 0).val % 1024, Nat.mod_lt _ (by decide)⟩ ⟨(y 1).val, (y 1).isLt⟩)

theorem blkOf_emb (b : Fin 16) (x : S1024x1024.Idx) : blkOf ((oblk b).view.emb x) = b := by
  have h : (oblk b).view.emb x ∈ blkSet b := oblk_set b ▸ View.emb_mem_set (v := (oblk b).view) x
  exact Fin.ext ((mem_blkSet b _).mp h)

/-- Each block of the result array is the block's values. -/
theorem read_resA (b : Fin 16) : (oblk b).view.read (Elt F) (resA A) = val A b := by
  funext x
  obtain ⟨y, hy⟩ : ∃ y : S16384x1024.Idx, y = (oblk b).view.emb x := ⟨_, rfl⟩
  have hb : blkOf y = b := by rw [hy]; exact blkOf_emb b x
  have h0 : (x 0).val < 1024 := (x 0).isLt
  have e0 : (y 0).val = b.val * 1024 + 1 * (x 0).val := by rw [hy]; rfl
  have e1 : (y 1).val = 0 + 1 * (x 1).val := by rw [hy]; rfl
  have e : resA A y = val A b x := by
    unfold resA
    rw [hb]
    refine congrArg (val A b) (funext fun a => Fin.ext ?_)
    match a with
    | ⟨0, _⟩ => show (y 0).val % 1024 = (x 0).val; omega
    | ⟨1, _⟩ => show (y 1).val = (x 1).val; omega
  rw [hy] at e
  exact e

/-- What a memref is held at matters only through what it reads. -/
theorem held_congr {sp : Space} {s : Shape} {e : EltTy} (M : Memref sig .tc sp s e) (f g : Ct F M c)
    (h : M.view.read (Elt F) f = M.view.read (Elt F) g) : (held c M f : sProp 𝕄) = held c M g := by
  refine pointsTo_congr fun i hi => ?_
  obtain ⟨x, -, rfl⟩ := Finset.mem_map.mp hi
  have e := congrFun h x
  rw [View.read_apply, View.read_apply] at e
  exact (cast_inj _).mp e

/-- The blocks written are the result array whole. -/
theorem doneO_join : (bigSep Finset.univ (doneO A V) : sProp 𝕄) = wholeP c main_call0_v4 (resA A) := by
  rw [o_split]
  exact bigSep_congr fun b _ => held_congr (oblk b) _ _ ((read_put (oblk b) V (val A b)).trans (read_resA A b).symm)

/-! ## The families at the two ends -/

theorem inB_begin : iprop(bigSep Finset.univ (homeX c A.X) ∗ freeI c 0 ∗ freeI c 1 ∗ freeI c 2 ∗ freeI c 3) ⊢ bigSep Finset.univ (inB A 0) := by
  have e0 : inB A 0 0 = iprop(homeX c A.X 0 ∗ freeI c 0) := inB_zero (by decide) (by decide)
  have e1 : inB A 0 1 = iprop(homeX c A.X 1 ∗ freeI c 1) := inB_zero (by decide) (by decide)
  have e2 : inB A 0 2 = iprop(homeX c A.X 2 ∗ freeI c 2) := inB_zero (by decide) (by decide)
  have e3 : inB A 0 3 = iprop(homeX c A.X 3 ∗ freeI c 3) := inB_zero (by decide) (by decide)
  have h := family_step [(0 : Fin 16), 1, 2, 3] (by decide) (homeX c A.X) (inB A 0)
    (fun x hx => by
      refine (inB_home ?_).symm
      by_contra hlt
      have : ∀ x : Fin 16, ¬ 0 + 4 ≤ x.val → x ∈ [(0 : Fin 16), 1, 2, 3] := by decide
      exact hx (this x hlt))
    (P := iprop(homeX c A.X 0 ∗ homeX c A.X 1 ∗ homeX c A.X 2 ∗ homeX c A.X 3))
    (Q := iprop((homeX c A.X 0 ∗ freeI c 0) ∗ (homeX c A.X 1 ∗ freeI c 1) ∗ (homeX c A.X 2 ∗ freeI c 2) ∗ (homeX c A.X 3 ∗ freeI c 3))) rfl (by simp only [bigSepL]; rw [e0, e1, e2, e3]; rfl)
  iintro ⟨H, HF⟩
  icases HF with ⟨F0, F1, F2, F3⟩
  ihave H := h $$ H
  icases H with ⟨HP, HK⟩
  icases HP with ⟨H0, H1, H2, H3⟩
  iapply HK
  isplitl [H0 F0]; · isplitl [H0]; iexact H0; iexact F0
  isplitl [H1 F1]; · isplitl [H1]; iexact H1; iexact F1
  isplitl [H2 F2]; · isplitl [H2]; iexact H2; iexact F2
  isplitl [H3]; iexact H3; iexact F3

theorem inB_finish : bigSep Finset.univ (inB A 16) ⊢ iprop(bigSep Finset.univ (homeX c A.X) ∗ freeI c 0 ∗ freeI c 1 ∗ freeI c 2 ∗ freeI c 3) := by
  have e0 : inB A 16 12 = iprop(homeX c A.X 12 ∗ freeI c 0) := inB_end (by decide) (by decide) (by decide)
  have e1 : inB A 16 13 = iprop(homeX c A.X 13 ∗ freeI c 1) := inB_end (by decide) (by decide) (by decide)
  have e2 : inB A 16 14 = iprop(homeX c A.X 14 ∗ freeI c 2) := inB_end (by decide) (by decide) (by decide)
  have e3 : inB A 16 15 = iprop(homeX c A.X 15 ∗ freeI c 3) := inB_end (by decide) (by decide) (by decide)
  have h := family_step [(12 : Fin 16), 13, 14, 15] (by decide) (inB A 16) (homeX c A.X)
    (fun x hx => by
      refine inB_done x.isLt ?_
      by_contra hlt
      have : ∀ x : Fin 16, ¬ x.val < 12 → x ∈ [(12 : Fin 16), 13, 14, 15] := by decide
      exact hx (this x hlt))
    (P := iprop((homeX c A.X 12 ∗ freeI c 0) ∗ (homeX c A.X 13 ∗ freeI c 1) ∗ (homeX c A.X 14 ∗ freeI c 2) ∗ (homeX c A.X 15 ∗ freeI c 3)))
    (Q := iprop(homeX c A.X 12 ∗ homeX c A.X 13 ∗ homeX c A.X 14 ∗ homeX c A.X 15)) (by simp only [bigSepL]; rw [e0, e1, e2, e3]; rfl) rfl
  iintro H
  ihave H := h $$ H
  icases H with ⟨HP, HK⟩
  icases HP with ⟨⟨H0, F0⟩, ⟨H1, F1⟩, ⟨H2, F2⟩, ⟨H3, F3⟩⟩
  isplitl [HK H0 H1 H2 H3]
  · iapply HK
    isplitl [H0]; iexact H0
    isplitl [H1]; iexact H1
    isplitl [H2]; iexact H2
    iexact H3
  isplitl [F0]; iexact F0
  isplitl [F1]; iexact F1
  isplitl [F2]; iexact F2
  iexact F3

theorem outB_begin : iprop(bigSep Finset.univ (fun b => homeO c b V) ∗ freeO c 0 ∗ freeO c 1 ∗ freeO c 2 ∗ freeO c 3) ⊢ bigSep Finset.univ (outB A V 0) := by
  have e0 : outB A V 0 0 = iprop(homeO c 0 V ∗ freeO c 0) := outB_fresh (by decide) (by decide) (by decide) (by decide)
  have e1 : outB A V 0 1 = iprop(homeO c 1 V ∗ freeO c 1) := outB_fresh (by decide) (by decide) (by decide) (by decide)
  have e2 : outB A V 0 2 = iprop(homeO c 2 V ∗ freeO c 2) := outB_fresh (by decide) (by decide) (by decide) (by decide)
  have e3 : outB A V 0 3 = iprop(homeO c 3 V ∗ freeO c 3) := outB_fresh (by decide) (by decide) (by decide) (by decide)
  have h := family_step [(0 : Fin 16), 1, 2, 3] (by decide) (fun b => homeO c b V) (outB A V 0)
    (fun x hx => by
      refine (outB_home (by decide) (by omega) ?_).symm
      by_contra hlt
      have : ∀ x : Fin 16, ¬ 4 ≤ x.val → x ∈ [(0 : Fin 16), 1, 2, 3] := by decide
      exact hx (this x hlt))
    (P := iprop(homeO c 0 V ∗ homeO c 1 V ∗ homeO c 2 V ∗ homeO c 3 V))
    (Q := iprop((homeO c 0 V ∗ freeO c 0) ∗ (homeO c 1 V ∗ freeO c 1) ∗ (homeO c 2 V ∗ freeO c 2) ∗ (homeO c 3 V ∗ freeO c 3))) rfl (by simp only [bigSepL]; rw [e0, e1, e2, e3]; rfl)
  iintro ⟨H, HF⟩
  icases HF with ⟨F0, F1, F2, F3⟩
  ihave H := h $$ H
  icases H with ⟨HP, HK⟩
  icases HP with ⟨H0, H1, H2, H3⟩
  iapply HK
  isplitl [H0 F0]; · isplitl [H0]; iexact H0; iexact F0
  isplitl [H1 F1]; · isplitl [H1]; iexact H1; iexact F1
  isplitl [H2 F2]; · isplitl [H2]; iexact H2; iexact F2
  isplitl [H3]; iexact H3; iexact F3

theorem outB_finish : bigSep Finset.univ (outB A V 16) ⊢ iprop(bigSep Finset.univ (doneO A V) ∗ freeO c 0 ∗ freeO c 1 ∗ freeO c 2 ∗ freeO c 3) := by
  have e0 : outB A V 16 12 = iprop(doneO A V 12 ∗ freeO c 0) := outB_last (by decide) (by decide)
  have e1 : outB A V 16 13 = iprop(doneO A V 13 ∗ freeO c 1) := outB_last (by decide) (by decide)
  have e2 : outB A V 16 14 = iprop(doneO A V 14 ∗ freeO c 2) := outB_last (by decide) (by decide)
  have e3 : outB A V 16 15 = iprop(doneO A V 15 ∗ freeO c 3) := outB_last (by decide) (by decide)
  have h := family_step [(12 : Fin 16), 13, 14, 15] (by decide) (outB A V 16) (doneO A V)
    (fun x hx => by
      refine outB_end ?_
      by_contra hlt
      have : ∀ x : Fin 16, ¬ x.val < 12 → x ∈ [(12 : Fin 16), 13, 14, 15] := by decide
      exact hx (this x hlt))
    (P := iprop((doneO A V 12 ∗ freeO c 0) ∗ (doneO A V 13 ∗ freeO c 1) ∗ (doneO A V 14 ∗ freeO c 2) ∗ (doneO A V 15 ∗ freeO c 3)))
    (Q := iprop(doneO A V 12 ∗ doneO A V 13 ∗ doneO A V 14 ∗ doneO A V 15)) (by simp only [bigSepL]; rw [e0, e1, e2, e3]; rfl) rfl
  iintro H
  ihave H := h $$ H
  icases H with ⟨HP, HK⟩
  icases HP with ⟨⟨H0, F0⟩, ⟨H1, F1⟩, ⟨H2, F2⟩, ⟨H3, F3⟩⟩
  isplitl [HK H0 H1 H2 H3]
  · iapply HK
    isplitl [H0]; iexact H0
    isplitl [H1]; iexact H1
    isplitl [H2]; iexact H2
    iexact H3
  isplitl [F0]; iexact F0
  isplitl [F1]; iexact F1
  isplitl [F2]; iexact F2
  iexact F3

end Cert.Kernel.Run

end
-- ==== Proof.Run.Launch.lean ====
/- The whole program run: the grid's sixteen points composed, the host operations around them, and the result. -/
module

public import proofs.«01_k».proof.Proof.Run.Split
public import proofs.«01_k».proof.Proof.Gen.Kernel.Frame
public import Idealize.ShloMosaic.Lib.Pipeline.FrameSuffixV

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-- The six arrays as the kernel finds them: after the host operations before it. -/
def args (c : Dev nD) : Args F c where
  X := V m c main_call0_v0
  M := V m c main_call0_v1
  P := V m c main_arg2
  S := V m c main_arg3
  G := V m c main_call0_v2
  B := V m c main_call0_v3
/-- The result buffer's contents as the kernel finds it. -/
def out0 (c : Dev nD) : Ct F oM c := V m c main_call0_v4

/-! ## The kernel's own semaphores -/

abbrev osem : Fin 16 → SemLoc sig := fun k => .dma k
theorem ownSemFacts : Pipeline.OwnSemFacts (cfgs 0).spec osem := by decide

theorem ownSems0_eq (c : Dev nD) : (Pipeline.ownSems0 (Ix := Unit) (Name := ℕ) (U := UU nD τ) (Lvl := ℕ) (Val := Elt F) (τ := τ) osem c : sProp 𝕄)
    = iprop(cellZ c (icell 0) ∗ cellZ c (icell 1) ∗ cellZ c (icell 2) ∗ cellZ c (icell 3)
      ∗ cellZ c (ocell 0) ∗ cellZ c (ocell 1) ∗ cellZ c (ocell 2) ∗ cellZ c (ocell 3)
      ∗ cellZ c (pcell 0) ∗ cellZ c (pcell 1) ∗ cellZ c (pcell 2) ∗ cellZ c (pcell 3)
      ∗ cellZ c cc0_scratch8 ∗ cellZ c sgc0 ∗ cellZ c sgc1 ∗ cellZ c sgc2) :=
  bigSep_univ_eq_bigSepL [(icell 0).sem, (icell 1).sem, (icell 2).sem, (icell 3).sem, (ocell 0).sem, (ocell 1).sem, (ocell 2).sem, (ocell 3).sem,
    (pcell 0).sem, (pcell 1).sem, (pcell 2).sem, (pcell 3).sem, cc0_scratch8.sem, sgc0.sem, sgc1.sem, sgc2.sem] (by decide) (by decide) _

/-- The buffers the kernel reads where they are. -/
abbrev readList : List (Ref sig .tc) := [main_call0_v0, main_call0_v1, main_arg2, main_arg3, main_call0_v2, main_call0_v3]
abbrev readSet : Finset (Ref sig .tc) := readList.toFinset
/-- The buffer it writes. -/
abbrev writeSet : Finset (Ref sig .tc) := [main_call0_v4].toFinset

/-- The kernel's buffers after it: the result written, every other as it was. -/
def G1 (c : Dev nD) (b : Ref sig .tc) : Buf (Elt F) ((c : Thread nD τ).loc b) :=
  if h : b = main_call0_v4 then cast (congrArg (fun b : Ref sig .tc => Buf (Elt F) ((c : Thread nD τ).loc b)) h.symm) (resA (args m c)) else V m c b
theorem G1_out (c : Dev nD) : G1 m c main_call0_v4 = resA (args m c) := by
  unfold G1; rw [dif_pos rfl]; rfl

theorem read_list (c : Dev nD) (W : (b : Ref sig .tc) → Buf (Elt F) ((c : Thread nD τ).loc b)) :
    (bigSep readSet fun b => ((c : Thread nD τ).loc b) ↦{fullShare} W b : sProp 𝕄)
      = iprop(wholeP c main_call0_v0 (W main_call0_v0) ∗ wholeP c main_call0_v1 (W main_call0_v1) ∗ wholeP c main_arg2 (W main_arg2)
        ∗ wholeP c main_arg3 (W main_arg3) ∗ wholeP c main_call0_v2 (W main_call0_v2) ∗ wholeP c main_call0_v3 (W main_call0_v3)) :=
  (bigSep_eq_bigSepL readList (by decide) _).trans rfl
theorem write_list (c : Dev nD) (W : (b : Ref sig .tc) → Buf (Elt F) ((c : Thread nD τ).loc b)) :
    (bigSep writeSet fun b => ((c : Thread nD τ).loc b) ↦{fullShare} W b : sProp 𝕄) = wholeP c main_call0_v4 (W main_call0_v4) :=
  (bigSep_eq_bigSepL [main_call0_v4] (by decide) _).trans rfl

/-- What the launch hands over is what the first point starts from. -/
theorem enter (c : Dev nD) :
    Pipeline.ΦDRV osem cfg0.spec readSet writeSet (V m) (V m) c ⊢ Φ (args m c) (out0 m c) 0 := by
  unfold Pipeline.ΦDRV Φ
  rw [scopedRest0_eq, ownSems0_eq, read_list, write_list]
  rw [four (posB (args m c) 0), posB_zero, posB_zero, posB_zero, posB_zero]
  rw [show tabB (args m c) 0 = tabStart (args m c) from if_pos rfl]
  unfold tabStart
  iintro ⟨HS, HC, HR, HO⟩
  icases HS with ⟨S0, S1, S2, ⟨%fm, S3⟩, S4⟩
  icases HC with ⟨I0, I1, I2, I3, O0, O1, O2, O3, P0, P1, P2, P3, M0, T0, T1, T2⟩
  icases HR with ⟨RX, RM, RP, RS, RG, RB⟩
  ihave S0 := (ibuf_split c) $$ S0
  icases S0 with ⟨A0, A1, A2, A3⟩
  ihave S1 := (obuf_split c) $$ S1
  icases S1 with ⟨B0, B1, B2, B3⟩
  ihave S2 := (pbufs_split c) $$ S2
  icases S2 with ⟨C0, C1, C2, C3⟩
  ihave S4 := (rows_split c) $$ S4
  icases S4 with ⟨D0, D1, D2⟩
  ihave RX := (show (wholeP c main_call0_v0 (V m c main_call0_v0) : sProp 𝕄) ⊢ _ from Entails.of_eq (x_split c (args m c).X)) $$ RX
  ihave HO := (show (wholeP c main_call0_v4 (V m c main_call0_v4) : sProp 𝕄) ⊢ _ from Entails.of_eq (o_split c (out0 m c))) $$ HO
  ihave RP := (show (wholeP c main_arg2 (V m c main_arg2) : sProp 𝕄) ⊢ _ from Entails.of_eq ((p_split c (args m c).P).trans (four _))) $$ RP
  icases RP with ⟨Q0, Q1, Q2, Q3⟩
  isplitl [RX A0 A1 A2 A3 I0 I1 I2 I3]
  · iapply (inB_begin (args m c))
    isplitl [RX]; · iexact RX
    isplitl [A0 I0]; · isplitl [A0]; iexact A0; iexact I0
    isplitl [A1 I1]; · isplitl [A1]; iexact A1; iexact I1
    isplitl [A2 I2]; · isplitl [A2]; iexact A2; iexact I2
    isplitl [A3]; iexact A3; iexact I3
  isplitl [HO B0 B1 B2 B3 O0 O1 O2 O3]
  · iapply (outB_begin (args m c) (out0 m c))
    isplitl [HO]; · iexact HO
    isplitl [B0 O0]; · isplitl [B0]; iexact B0; iexact O0
    isplitl [B1 O1]; · isplitl [B1]; iexact B1; iexact O1
    isplitl [B2 O2]; · isplitl [B2]; iexact B2; iexact O2
    isplitl [B3]; iexact B3; iexact O3
  isplitl [C0 C1 C2 C3 Q0 Q1 Q2 Q3 P0 P1 P2 P3]
  · isplitl [C0 Q0 P0]; · isplitl [C0]; iexact C0; isplitl [Q0]; iexact Q0; iexact P0
    isplitl [C1 Q1 P1]; · isplitl [C1]; iexact C1; isplitl [Q1]; iexact Q1; iexact P1
    isplitl [C2 Q2 P2]; · isplitl [C2]; iexact C2; isplitl [Q2]; iexact Q2; iexact P2
    isplitl [C3]; iexact C3; isplitl [Q3]; iexact Q3; iexact P3
  isplitl [S3 RM M0]
  · isplitl [S3]
    · iexists fm; iapply (Entails.of_eq (held_whole c cc0_scratch3 fm).symm); iexact S3
    isplitl [RM]
    · iapply (Entails.of_eq (held_whole c main_call0_v1 (args m c).M).symm); iexact RM
    iexact M0
  isplitl [D0 RS T0]
  · isplitl [D0]; · iexact D0
    isplitl [RS]
    · iapply (Entails.of_eq (held_whole c main_arg3 (args m c).S).symm); iexact RS
    iexact T0
  isplitl [D1 RG T1]
  · isplitl [D1]; · iexact D1
    isplitl [RG]
    · iapply (Entails.of_eq (held_whole c main_call0_v2 (args m c).G).symm); iexact RG
    iexact T1
  isplitl [D2]; · iexact D2
  isplitl [RB]
  · iapply (Entails.of_eq (held_whole c main_call0_v3 (args m c).B).symm); iexact RB
  iexact T2

/-- What the last point leaves is what the launch takes back, the result buffer at the result array. -/
theorem leave (c : Dev nD) :
    Φ (args m c) (out0 m c) 16 ⊢ Pipeline.ΦDRV osem cfg0.spec readSet writeSet (V m) (G1 m) c := by
  unfold Pipeline.ΦDRV Φ
  rw [scopedRest0_eq, ownSems0_eq, read_list, write_list, G1_out]
  rw [four (posB (args m c) 16), posB_in (by decide), posB_in (by decide), posB_in (by decide), posB_in (by decide)]
  rw [show tabB (args m c) 16 = tabRest (args m c) from if_neg (by decide)]
  unfold tabRest
  iintro ⟨HI, HO, HP, HT⟩
  ihave HI := (inB_finish (args m c)) $$ HI
  icases HI with ⟨RX, ⟨A0, I0⟩, ⟨A1, I1⟩, ⟨A2, I2⟩, ⟨A3, I3⟩⟩
  ihave HO := (outB_finish (args m c) (out0 m c)) $$ HO
  icases HO with ⟨RO, ⟨B0, O0⟩, ⟨B1, O1⟩, ⟨B2, O2⟩, ⟨B3, O3⟩⟩
  icases HP with ⟨⟨⟨%c0, -, C0⟩, Q0, P0⟩, ⟨⟨%c1, -, C1⟩, Q1, P1⟩, ⟨⟨%c2, -, C2⟩, Q2, P2⟩, ⟨⟨%c3, -, C3⟩, Q3, P3⟩⟩
  icases HT with ⟨⟨⟨%fm, -, S3⟩, ⟨%d0, -, D0⟩, ⟨%d1, -, D1⟩, ⟨%d2, -, D2⟩⟩, ⟨RM, M0⟩, ⟨RS, T0⟩, ⟨RG, T1⟩, ⟨RB, T2⟩⟩
  isplitl [A0 A1 A2 A3 B0 B1 B2 B3 C0 C1 C2 C3 S3 D0 D1 D2]
  · isplitl [A0 A1 A2 A3]
    · iapply (ibuf_join c)
      isplitl [A0]; iexact A0
      isplitl [A1]; iexact A1
      isplitl [A2]; iexact A2
      iexact A3
    isplitl [B0 B1 B2 B3]
    · iapply (obuf_join c)
      isplitl [B0]; iexact B0
      isplitl [B1]; iexact B1
      isplitl [B2]; iexact B2
      iexact B3
    isplitl [C0 C1 C2 C3]
    · iapply (pbufs_join c)
      isplitl [C0]; · iexists c0; iexact C0
      isplitl [C1]; · iexists c1; iexact C1
      isplitl [C2]; · iexists c2; iexact C2
      iexists c3; iexact C3
    isplitl [S3]
    · iexists fm; iapply (Entails.of_eq (held_whole c cc0_scratch3 fm)); iexact S3
    iapply (rows_join c)
    isplitl [D0]; · iexists d0; iexact D0
    isplitl [D1]; · iexists d1; iexact D1
    iexists d2; iexact D2
  isplitl [I0 I1 I2 I3 O0 O1 O2 O3 P0 P1 P2 P3 M0 T0 T1 T2]
  · isplitl [I0]; iexact I0
    isplitl [I1]; iexact I1
    isplitl [I2]; iexact I2
    isplitl [I3]; iexact I3
    isplitl [O0]; iexact O0
    isplitl [O1]; iexact O1
    isplitl [O2]; iexact O2
    isplitl [O3]; iexact O3
    isplitl [P0]; iexact P0
    isplitl [P1]; iexact P1
    isplitl [P2]; iexact P2
    isplitl [P3]; iexact P3
    isplitl [M0]; iexact M0
    isplitl [T0]; iexact T0
    isplitl [T1]; iexact T1
    iexact T2
  isplitl [RX RM Q0 Q1 Q2 Q3 RS RG RB]
  · isplitl [RX]
    · iapply (Entails.of_eq (x_split c (args m c).X).symm); iexact RX
    isplitl [RM]
    · iapply (Entails.of_eq (held_whole c main_call0_v1 (args m c).M)); iexact RM
    isplitl [Q0 Q1 Q2 Q3]
    · iapply (Entails.of_eq ((p_split c (args m c).P).trans (four _)).symm)
      isplitl [Q0]; iexact Q0
      isplitl [Q1]; iexact Q1
      isplitl [Q2]; iexact Q2
      iexact Q3
    isplitl [RS]
    · iapply (Entails.of_eq (held_whole c main_arg3 (args m c).S)); iexact RS
    isplitl [RG]
    · iapply (Entails.of_eq (held_whole c main_call0_v2 (args m c).G)); iexact RG
    iapply (Entails.of_eq (held_whole c main_call0_v3 (args m c).B)); iexact RB
  iapply (Entails.of_eq (doneO_join (args m c) (out0 m c))); iexact RO

/-! ## The launch's data and the body's obligation -/

def dats (_ : Fin 1) (c : Dev nD) : Dat τ (Elt F) Unit ℕ (UU nD τ) ℕ cfg0 c where
  A w := w.elim0
  after w := w.elim0
  Φ t := Φ (args m c) (out0 m c) t.val
  q _ := fullShare
  owed _ := 0

theorem pt_coords : ∀ t : Fin grid0.N, pt (grid0.coords t) = t.val := by decide

theorem defs_tc : (defs₀ (F := F)) .tc cfg0.body = fun a => bodyG (grid0.coords a.1) := rfl
theorem prog_eq (t : Fin cfg0.N) : (defs₀ (F := F)) .tc cfg0.body (cfg0.bodyArgs t (cfg0.slots t)) = bodyG (grid0.coords t) :=
  (congrFun defs_tc _).trans rfl

set_option backward.isDefEq.respectTransparency.types false in
/-- Every grid point takes what is held before it to what is held after it. -/
theorem body_obligation (c : Dev nD) : BodyObligation (dats (F := F) m 0 c) (defs₀ (F := F)) 𝒱₀ () Set.univ := fun t => by
  have e0 : (dats (F := F) m 0 c).Φ t.castSucc = Φ (args m c) (out0 m c) (pt (grid0.coords t)) :=
    congrArg (Φ (args m c) (out0 m c)) (pt_coords t).symm
  have e1 : (dats (F := F) m 0 c).Φ t.succ = Φ (args m c) (out0 m c) (pt (grid0.coords t) + 1) :=
    congrArg (Φ (args m c) (out0 m c)) (congrArg (· + 1) (pt_coords t)).symm
  rw [e0, e1]
  unfold Dat.owesAt Pipeline.owesWithin
  rw [show (dats (F := F) m 0 c).owed t.castSucc = 0 from rfl, show (dats (F := F) m 0 c).owed t.succ = 0 from rfl]
  iintro ⟨HΦ, ⟨%W, -, HW⟩, HE⟩
  sl_rw [prog_eq t]
  iapply (stepAny (A := args m c) (V := out0 m c) (grid0.coords t) W _)
  isplitl [HΦ]; · iexact HΦ
  isplitl [HW]; · iexact HW
  iintro ⟨HΦ, ⟨%W', HW⟩⟩
  isplitl [HΦ]; · iexact HΦ
  isplitl [HW]
  · iexists W'; isplitr; · ipureintro; exact fun _ _ => Or.inl trivial
    iexact HW
  iexact HE

set_option maxHeartbeats 800000 in
/-- The program around the kernel: the host operations before it, the kernel, the host operations after it. -/
theorem hmain1 : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- Every buffer's contents when the kernel is done, before the last host operation. -/
abbrev V1 (c : Dev nD) : Valuation τ sig (Elt F) :=
  Pipeline.withArrays (cfg0.spec) c (Pipeline.withR (V0 m c) writeSet c (G1 m c)) fun w => (dats m 0 c).arrAt w cfg0.N

/-- A buffer the last host operation does not write and the kernel does not write ends as the kernel found it. -/
theorem last_kept (c : Dev nD) (b : Ref sig .tc) (hb : b ≠ main_v1) (hb' : b ∉ writeSet) :
    StableHlo.after (List.flatten [hostOps1]) (V1 m c) (Proc.devRef .tc b) = V m c b := by
  unfold V1
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c _ _ b (fun w => w.elim0), Pipeline.withR_of_not_mem _ _ _ _ _ hb']

/-- The result: the blocks of the result array, as one array of the result's shape. -/
def result (c : Dev nD) : Buf (Elt F) ((c : Thread nD τ).loc main_v1) :=
  shapeCast S4x4096x1024 (show FVec F S16384x1024 .f32 from resA (args m c)) shapeCasts_S16384x1024_S4x4096x1024

theorem last_result (c : Dev nD) :
    StableHlo.after (List.flatten [hostOps1]) (V1 m c) (Proc.devRef .tc main_v1) = result m c := by
  have e : V1 m c (Proc.devRef .tc main_call0_v4) = resA (args m c) := by
    unfold V1
    rw [Pipeline.withArrays_of_ne _ c _ _ main_call0_v4 (fun w => w.elim0), Pipeline.withR_of_mem _ _ _ _ _ (by decide)]
    exact G1_out m c
  unfold result
  rw [← e]
  rfl

set_option backward.isDefEq.respectTransparency.types false in
/-- From any memory with every counter at zero: every weakly fair execution terminates; every final state has the
    result at the blocks' values, the six arguments as they were, and every counter at zero. -/
theorem run (ρ : Dev nD → PrngReg) : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  Pipeline.θ_run_frame_dmaR_aroundV cfgs (dats m) 0 launch0 osem defs₀ 𝒱₀ ownSemFacts readSet writeSet (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G1 m)
    (hmain := hmain1 m) (hA := fun _ w => w.elim0)
    (hin := fun c => enter m c)
    (hout := fun c => (Entails.of_eq (congrArg (Φ (args m c) (out0 m c)) N_0)).trans (leave m c))
    (Q' := _)
    (hQ' := fun r h => by
      refine ⟨fun c => ?_, h.2⟩
      have H := (h.1 c).2
      have K : ∀ b (hu : b ∈ Pipeline.restRefs sig (cfgs 0).spec), b ≠ main_v1 → b ∉ writeSet → r.2.mem ((c : Thread nD τ).loc b) = V m c b :=
        fun b hu h1 h2 => (H b hu).trans (last_kept m c b h1 h2)
      refine ⟨(H main_v1 (Pipeline.mem_restRefs_of main_v1 (by decide) (by decide))).trans (last_result m c), ?_, ?_, ?_, ?_, ?_, ?_⟩
      · exact (K main_arg0 (Pipeline.mem_restRefs_of main_arg0 (by decide) (by decide)) (by decide) (by decide)).trans (V_main_arg0 m c)
      · exact (K main_arg1 (Pipeline.mem_restRefs_of main_arg1 (by decide) (by decide)) (by decide) (by decide)).trans (V_main_arg1 m c)
      · exact (K main_arg2 (Pipeline.mem_restRefs_of main_arg2 (by decide) (by decide)) (by decide) (by decide)).trans (V_main_arg2 m c)
      · exact (K main_arg3 (Pipeline.mem_restRefs_of main_arg3 (by decide) (by decide)) (by decide) (by decide)).trans (V_main_arg3 m c)
      · exact (K main_arg4 (Pipeline.mem_restRefs_of main_arg4 (by decide) (by decide)) (by decide) (by decide)).trans (V_main_arg4 m c)
      · exact (K main_arg5 (Pipeline.mem_restRefs_of main_arg5 (by decide) (by decide)) (by decide) (by decide)).trans (V_main_arg5 m c))

end Cert.Kernel.Run

end
-- ==== Proof.Math.Take.lean ====
/- The reference's two table look-ups, read at one position: an index word in range picks its own row of the table. -/
module

public import proofs.«01_k».proof.Proof.Gen.ReferenceIdeal
public import Idealize.ShloMosaic.PureOps.Ideal
public import Idealize.ShloMosaic.Lib.ValueIdx
public import Idealize.ShloMosaic.Lib.IdealHost
public import Idealize.ShloMosaic.Lib.Pipeline.Value
public import Idealize.ShloMosaic.Lib.ReduceAll
public import Idealize.ShloMosaic.Lib.StableHlo.Predicate

@[expose] public section

set_option maxRecDepth 16384

noncomputable section

namespace Cert.RefMath

open Cert.ReferenceIdeal Cert.ReferenceIdeal.Gen
open Idealize.ShloMosaic Idealize.ShloMosaic.TcCoe Idealize.ShloMosaic.ValueIdx

variable {F : FTy → Type} [FloatOps F]

/-- The position of every row, as a word. -/
def positions : IVec S4x4096 32 :=
  broadcastInDim S4x4096 ![0, 1] bcast_S1x4096_S4x4096_0_1 (broadcastInDim S1x4096 ![1] bcast_S4096_S1x4096_1 (iotaInDim S4096 32 0))

/-- The index words, a negative one counted from the end of a table of `n` rows. -/
def wrapped (n : BitVec 32) (i : IVec S4x4096 32) : IVec S4x4096x1 32 :=
  broadcastInDim S4x4096x1 ![0, 1] bcast_S4x4096_S4x4096x1_0_1
    (select (cmpi .slt i (broadcastInDim S4x4096 ![] bcast_S_S4x4096 (constantI S_ 32 0#32)))
      (addi i (broadcastInDim S4x4096 ![] bcast_S_S4x4096 (constantI S_ 32 n))) i)

/-- Whether each index word lies between zero and `top`. -/
def inRange (top : BitVec 32) (w : IVec S4x4096x1 32) : IVec S4x4096 1 :=
  Host.reduce IntOp.andi
    (andi (cmpi .sge w (broadcastInDim S4x4096x1 ![] bcast_S_S4x4096x1 (constantI S_ 32 0#32)))
      (cmpi .sle w (broadcastInDim S4x4096x1 ![0, 1, 2] bcast_S1x1x1_S4x4096x1_0_1_2
        (broadcastInDim S1x1x1 ![2] bcast_S1_S1x1x1_2 (constantI S1 32 top)))))
    (constantI S_ 1 1#1) reducesTo_S4x4096x1_S4x4096_d2 h_S_

/-- The rows found where the index is in range, the fill value elsewhere. -/
def filled (ok : IVec S4x4096 1) (g : FVec F S4x4096x1024 .f32) : FVec F S4x4096x1024 .f32 :=
  select (broadcastInDim S4x4096x1024 ![0, 1] bcast_S4x4096_S4x4096x1024_0_1 ok) g
    (broadcastInDim S4x4096x1024 ![] bcast_S_S4x4096x1024 (constant S_ .f32 0x7FC00000#32))

theorem positions_at (a : Fin 4) (q : Fin 4096) : positions (ix2 a q) = BitVec.ofNat 32 q.val := rfl

/-- A small word is not below zero, so it is not counted from the end. -/
theorem wrapped_at (n : BitVec 32) (i : IVec S4x4096 32) (a : Fin 4) (q : Fin 4096) (o : Fin 1) (v : ℕ) (hv : v < 4096)
    (hi : i (ix2 a q) = BitVec.ofNat 32 v) : wrapped n i (ix3 a q o) = BitVec.ofNat 32 v := by
  have hb : wrapped n i (ix3 a q o)
      = Scalar.select (IntOp.cmpi .slt (i (ix2 a q)) 0#32) (i (ix2 a q) + n) (i (ix2 a q)) :=
    broadcastInDim_apply _ _ _ _ (ix2 a q) (fun d => match d with | ⟨0, _⟩ => rfl | ⟨1, _⟩ => rfl)
  have hs : IntOp.cmpi .slt (BitVec.ofNat 32 v) 0#32 = 0#1 :=
    eq_zero_of_ne_one fun h => absurd ((StableHlo.Predicate.slt_ofNat_iff v 0 (by omega) (by decide)).1 h) (by omega)
  rw [hb, hi, hs]
  rfl

/-- When every index word is in range, every position is found in range. -/
theorem inRange_at (t : ℕ) (ht : t < 4096) (w : IVec S4x4096x1 32)
    (hw : ∀ x, ∃ v, v ≤ t ∧ w x = BitVec.ofNat 32 v) (y : S4x4096.Idx) : inRange (BitVec.ofNat 32 t) w y = 1#1 := by
  refine Host.reduce_andi_one _ _ _ _ _ rfl fun x => ?_
  obtain ⟨v, hv, hx⟩ := hw x
  show IntOp.andi (IntOp.cmpi .sge (w x) (BitVec.ofNat 32 0)) (IntOp.cmpi .sle (w x) (BitVec.ofNat 32 t)) = 1#1
  have h1 : IntOp.cmpi .sge (BitVec.ofNat 32 v) (BitVec.ofNat 32 0) = 1#1 :=
    (StableHlo.Predicate.sle_ofNat_iff 0 v (by decide) (by omega)).2 (Nat.zero_le _)
  have h2 : IntOp.cmpi .sle (BitVec.ofNat 32 v) (BitVec.ofNat 32 t) = 1#1 :=
    (StableHlo.Predicate.sle_ofNat_iff v t (by omega) (by omega)).2 hv
  rw [hx, h1, h2]
  rfl

/-- The look-up in the table of positions reads the row its index names. -/
theorem gather_positions (x : S4096x1024.Idx → F .f32) (w : IVec S4x4096x1 32) (a : Fin 4) (q : Fin 4096) (k : Fin 1024) (v : Fin 4096)
    (hw : w (ix3 a q (0 : Fin 1)) = BitVec.ofNat 32 v.val) :
    Host.gather gather_S4096x1024_S4x4096x1_S4x4096x1024_2_0_n_n_0_2_11024 x w (ix3 a q k) = x (ix2 v k) := by
  refine congrArg x (funext fun d => Fin.ext ?_)
  match d with
  | ⟨0, _⟩ =>
    have h : w (gather_S4096x1024_S4x4096x1_S4x4096x1024_2_0_n_n_0_2_11024.siIdx (ix3 a q k) ⟨0, by decide⟩) = BitVec.ofNat 32 v.val := by
      refine (congrArg w (funext fun b => ?_)).trans hw
      match b with
      | ⟨0, _⟩ => rfl
      | ⟨1, _⟩ => rfl
      | ⟨2, _⟩ => rfl
    show min (w (gather_S4096x1024_S4x4096x1_S4x4096x1024_2_0_n_n_0_2_11024.siIdx (ix3 a q k) ⟨0, by decide⟩)).toInt.toNat 4095 + 0 + 0 = v.val
    rw [h, StableHlo.Predicate.toInt_ofNat_small _ (by omega)]
    omega
  | ⟨1, _⟩ => show 0 + 0 + k.val = k.val; omega

/-- The look-up in the table of segments likewise. -/
theorem gather_segments (x : S2x1024.Idx → F .f32) (w : IVec S4x4096x1 32) (a : Fin 4) (q : Fin 4096) (k : Fin 1024) (v : Fin 2)
    (hw : w (ix3 a q (0 : Fin 1)) = BitVec.ofNat 32 v.val) :
    Host.gather gather_S2x1024_S4x4096x1_S4x4096x1024_2_0_n_n_0_2_11024 x w (ix3 a q k) = x (ix2 v k) := by
  refine congrArg x (funext fun d => Fin.ext ?_)
  match d with
  | ⟨0, _⟩ =>
    have h : w (gather_S2x1024_S4x4096x1_S4x4096x1024_2_0_n_n_0_2_11024.siIdx (ix3 a q k) ⟨0, by decide⟩) = BitVec.ofNat 32 v.val := by
      refine (congrArg w (funext fun b => ?_)).trans hw
      match b with
      | ⟨0, _⟩ => rfl
      | ⟨1, _⟩ => rfl
      | ⟨2, _⟩ => rfl
    show min (w (gather_S2x1024_S4x4096x1_S4x4096x1024_2_0_n_n_0_2_11024.siIdx (ix3 a q k) ⟨0, by decide⟩)).toInt.toNat 1 + 0 + 0 = v.val
    rw [h, StableHlo.Predicate.toInt_ofNat_small _ (by omega)]
    omega
  | ⟨1, _⟩ => show 0 + 0 + k.val = k.val; omega

/-- Where every index is in range the fill value is nowhere taken. -/
theorem filled_at (ok : IVec S4x4096 1) (g : FVec F S4x4096x1024 .f32) (a : Fin 4) (q : Fin 4096) (k : Fin 1024)
    (h : ok (ix2 a q) = 1#1) : filled ok g (ix3 a q k) = g (ix3 a q k) := by
  have hb : broadcastInDim S4x4096x1024 ![0, 1] bcast_S4x4096_S4x4096x1024_0_1 ok (ix3 a q k) = ok (ix2 a q) :=
    broadcastInDim_apply _ _ _ _ (ix2 a q) (fun d => match d with | ⟨0, _⟩ => rfl | ⟨1, _⟩ => rfl)
  unfold filled
  show Scalar.select (broadcastInDim S4x4096x1024 ![0, 1] bcast_S4x4096_S4x4096x1024_0_1 ok (ix3 a q k)) _ _ = _
  rw [hb, h]
  rfl

end Cert.RefMath

end
-- ==== Proof.Math.Norm.lean ====
/- The equation of one row: normalising by the mean of the squares less the square of the mean, with a reciprocal square
   root, is normalising by the mean squared deviation with a division by the square root, when the row is finite. -/
module

public import proofs.«01_k».proof.Proof.Run.Launch
public import Idealize.ShloMosaic.PureOps.Ideal
public import Idealize.ShloMosaic.PureOps.Ideal.Laws
public import Idealize.ShloMosaic.Lib.IdealHost

@[expose] public section

noncomputable section

namespace Cert.Norm

open Idealize.ShloMosaic

/-- The words the programs write for 1/1024, 1024 and the small constant under the root. -/
theorem inv_word : Ideal.ofBits .f32 0x3A800000#32 = (((1 : ℝ) / 1024 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num
theorem eps_word : ∃ ε : ℝ, 0 < ε ∧ Ideal.ofBits .f32 0x3727C5AC#32 = ((ε : ℝ) : EReal) := by
  refine ⟨_, ?_, by simp [Ideal.ofBits, Ideal.ieee, -EReal.coe_mul]; rfl⟩
  norm_num

/-- A sum of finite numbers, as extended reals, is the sum. -/
theorem sum_coe {n : ℕ} (f : Fin n → ℝ) : (∑ k, ((f k : ℝ) : EReal)) = ((∑ k, f k : ℝ) : EReal) :=
  (map_sum (⟨⟨Real.toEReal, EReal.coe_zero⟩, EReal.coe_add⟩ : ℝ →+ EReal) f Finset.univ).symm

/-- The mean of the squares less the square of the mean is the mean squared deviation. -/
theorem var_eq {n : ℕ} (e : Fin n → ℝ) {w : ℝ} (hw : (n : ℝ) * w = 1) :
    (∑ k, e k * e k) * w - ((∑ k, e k) * w) * ((∑ k, e k) * w)
      = (∑ k, (e k - (∑ k, e k) * w) * (e k - (∑ k, e k) * w)) * w := by
  have h : ∀ μ : ℝ, ∑ k, (e k - μ) * (e k - μ) = (∑ k, e k * e k) - 2 * μ * (∑ k, e k) + n * (μ * μ) := by
    intro μ
    have : ∀ k, (e k - μ) * (e k - μ) = e k * e k - 2 * μ * e k + μ * μ := fun k => by ring
    simp only [this, Finset.sum_add_distrib, Finset.sum_sub_distrib, ← Finset.mul_sum, Finset.sum_const, Finset.card_univ,
      Fintype.card_fin, nsmul_eq_mul]
    ring
  rw [h]
  linear_combination (-(∑ k, e k) * (∑ k, e k) * w * w) * hw

/-- A quotient of finite numbers by one that is not zero. -/
theorem div_coe (x : ℝ) {y : ℝ} (hy : y ≠ 0) : Ideal.div (x : EReal) (y : EReal) = ((x * y⁻¹ : ℝ) : EReal) := by
  unfold Ideal.div
  rw [if_neg (by exact_mod_cast hy), ← EReal.coe_inv, ← EReal.coe_mul]

/-- One element of the kernel's row: `e` the row, `c` the weight 1/1024, `ε` the small constant. -/
def kernelElt (e : Fin 1024 → EReal) (c ε : EReal) (x g b : EReal) : EReal :=
  (x - (∑ k, e k) * c) * Ideal.rsqrt ((∑ k, e k * e k) * c - ((∑ k, e k) * c) * ((∑ k, e k) * c) + ε) * g + b

/-- The mean of the reference's row. -/
def refMean (e : Fin 1024 → EReal) (n : EReal) : EReal := Ideal.div (0 + ∑ k, e k) n
/-- One element of the reference's row: `n` the width. -/
def refElt (e : Fin 1024 → EReal) (n ε : EReal) (x g b : EReal) : EReal :=
  Ideal.div (x - refMean e n)
    (Ideal.sqrt (Ideal.div (0 + ∑ k, (e k - refMean e n) * (e k - refMean e n)) n + ε)) * g + b

/-- The two agree on a finite row, whatever the scale and the shift. -/
theorem elt_eq (e : Fin 1024 → EReal) (f : Fin 1024 → ℝ) (he : ∀ k, e k = (f k : EReal)) (j : Fin 1024) (g b : EReal) :
    kernelElt e (Ideal.ofBits .f32 0x3A800000#32) (Ideal.ofBits .f32 0x3727C5AC#32) (e j) g b
      = refElt e (Ideal.ofBits .f32 0x44800000#32) (Ideal.ofBits .f32 0x3727C5AC#32) (e j) g b := by
  obtain ⟨ε, hε, hεw⟩ := eps_word
  obtain rfl : e = fun k => (f k : EReal) := funext he
  have h1024 : (1024 : ℝ) ≠ 0 := by norm_num
  have hv := var_eq f (w := (1 : ℝ) / 1024) (by norm_num)
  have hnn : 0 ≤ (∑ k, (f k - (∑ k, f k) * (1 / 1024)) * (f k - (∑ k, f k) * (1 / 1024))) * ((1 : ℝ) / 1024) :=
    mul_nonneg (Finset.sum_nonneg fun k _ => mul_self_nonneg _) (by norm_num)
  have hpos := add_pos_of_nonneg_of_pos hnn hε
  have hm : refMean (fun k => (f k : EReal)) (Ideal.ofBits .f32 0x44800000#32) = (((∑ k, f k) * (1 / 1024) : ℝ) : EReal) := by
    unfold refMean
    rw [width_word, zero_add, sum_coe, div_coe _ h1024, one_div]
  unfold kernelElt refElt
  rw [hm, inv_word, width_word, hεw, zero_add]
  simp only [← EReal.coe_mul, ← EReal.coe_sub, sum_coe]
  rw [div_coe _ h1024, ← EReal.coe_add, ← EReal.coe_add, hv, inv_eq_one_div]
  have hs : Real.sqrt ((∑ k, (f k - (∑ k, f k) * (1 / 1024)) * (f k - (∑ k, f k) * (1 / 1024))) * ((1 : ℝ) / 1024) + ε) ≠ 0 :=
    (Real.sqrt_pos.mpr hpos).ne'
  rw [Ideal.rsqrt_coe, Ideal.sqrt_coe, if_neg (not_lt.mpr hpos.le), if_neg (not_lt.mpr hpos.le), if_neg hpos.ne',
    div_coe _ hs, ← EReal.coe_mul]

end Cert.Norm

end
-- ==== Proof.Math.Kernel.lean ====
/- What one block of the kernel computes at one position: the row's sum of the three summands, normalised. -/
module

public import proofs.«01_k».proof.Proof.Math.Norm
public import Idealize.ShloMosaic.Lib.ValueIdx
public import Idealize.ShloMosaic.Lib.ValueLayout
public import Idealize.ShloMosaic.Lib.ValueLayoutCasts

@[expose] public section

set_option maxRecDepth 16384

noncomputable section

namespace Cert.KernelMath

open Cert.Kernel Cert.Kernel.Gen Cert.Kernel.Run
open Idealize.ShloMosaic Idealize.ShloMosaic.ValueIdx

/-- A column spread over the columns of a matrix reads the column's row. -/
theorem spread_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- The sum of a matrix along its rows, read at a row. -/
theorem row_sum (src : FVec Ideal S1024x1024 .f32) (h hφ hacc) (r : Fin 1024) :
    multiReduction .add [1] S1024 src 0x00000000#32 h hφ hacc (ix1 r) = ∑ k : Fin 1024, src (ix2 r k) := by
  refine (Ideal.multiReduction_add_single src _ h hφ hacc (ix1 r)).trans ?_
  refine Finset.sum_congr rfl fun k _ => congrArg src (funext fun a => Fin.ext ?_)
  match a with
  | ⟨0, _⟩ => rfl
  | ⟨1, _⟩ => rfl

/-- A row's sum, laid out as a column and weighted, read at the row. -/
theorem mean_at (src : FVec Ideal S1024x1024 .f32) (h hφ hacc hc) (c : EReal) (r : Fin 1024) :
    mulf (shapeCast S1024x1 (multiReduction .add [1] S1024 src 0x00000000#32 h hφ hacc) hc)
      (broadcast S1024x1 (show Ideal .f32 from c)) (ix2 r (0 : Fin 1)) = (∑ k : Fin 1024, src (ix2 r k)) * c :=
  congrArg (fun u : EReal => u * c) ((shapeCast_a_a1_apply _ hc r (0 : Fin 1)).trans (row_sum src h hφ hacc r))

variable (m : Vec Ideal S1024x1 .i8) (x : Vec Ideal S1x1024x1024 .f32) (p : Vec Ideal S1024x1024 .f32) (s : Vec Ideal S2x1024 .f32)
  (g b : Vec Ideal S1x1024 .f32)

/-- The sum of the three summands at a position: the segment row is the second where the mask entry is not zero. -/
def summed (r k : Fin 1024) : EReal :=
  x (ix3 (0 : Fin 1) r k) + p (ix2 r k)
    + Scalar.select (IntOp.cmpi .ne (m (ix2 r (0 : Fin 1))) 0#8) (s (ix2 (1 : Fin 2) k)) (s (ix2 (0 : Fin 2) k))

theorem pay6_at (r k : Fin 1024) :
    k0_pay6 (F := Ideal) (k0_pay2 (F := Ideal) m) (k0_pay3 x p) (k0_pay4 s) (k0_pay5 s) (ix2 r k) = summed m x p s r k := by
  unfold k0_pay6 k0_pay2 k0_pay3 k0_pay4 k0_pay5 summed
  dsimp only
  rw [addf_apply, addf_apply, select_apply, shapeCast_1ab_ab_apply, spread_col, broadcastTo_1b_ab_apply, broadcastTo_1b_ab_apply]
  have e1 : ∀ (v : FVec Ideal S1x1024 .f32) h, shapeCast S1x1024 v h = v := fun v h => by
    funext i; exact shapeCast_apply v h i i rfl
  have e2 : ∀ (v : IVec S1024x1 1) h, shapeCast S1024x1 v h = v := fun v h => by
    funext i; exact shapeCast_apply v h i i rfl
  rw [e1, e1, e2, shapeCast_a_1a_apply, shapeCast_1a_a_apply, shapeCast_a_1a_apply, shapeCast_1a_a_apply,
    slice2_axis0_apply 1 s _ (0 : Fin 1) k (1 : Fin 2) rfl, slice2_axis0_apply 0 s _ (0 : Fin 1) k (0 : Fin 2) rfl]
  rfl

/-- The block the kernel computes, at a position. -/
theorem compute_at (r j : Fin 1024) :
    compute (F := Ideal) m x p s g b (ix2 r j)
      = Norm.kernelElt (summed m x p s r) (Ideal.ofBits .f32 0x3A800000#32) (Ideal.ofBits .f32 0x3727C5AC#32) (summed m x p s r j)
          (g (ix2 (0 : Fin 1) j)) (b (ix2 (0 : Fin 1) j)) := by
  unfold compute k0_pay8 k0_pay7
  dsimp only
  rw [addf_apply, mulf_apply, mulf_apply, subf_apply, broadcastTo_1b_ab_apply, broadcastTo_1b_ab_apply, spread_col, spread_col,
    shapeCast_1ab_ab_apply, shapeCast_ab_1ab_apply, pay6_at]
  have hm : ∀ k, k0_pay6 (F := Ideal) (k0_pay2 (F := Ideal) m) (k0_pay3 x p) (k0_pay4 s) (k0_pay5 s) (ix2 r k) = summed m x p s r k :=
    fun k => pay6_at m x p s r k
  have e1 := Finset.sum_congr (rfl : (Finset.univ : Finset (Fin 1024)) = Finset.univ) (fun k _ => hm k)
  have e2 := Finset.sum_congr (rfl : (Finset.univ : Finset (Fin 1024)) = Finset.univ) (fun k _ => congrArg₂ (fun u v : EReal => u * v) (hm k) (hm k))
  have m1 := (mean_at (k0_pay6 (F := Ideal) (k0_pay2 (F := Ideal) m) (k0_pay3 x p) (k0_pay4 s) (k0_pay5 s)) reduces_S1024x1024_S1024 (.inl rfl) rfl
    shapeCasts_S1024_S1024x1 (Ideal.ofBits .f32 0x3A800000#32) r).trans (congrArg (fun u : EReal => u * Ideal.ofBits .f32 0x3A800000#32) e1)
  have m2 := (mean_at (mulf (k0_pay6 (F := Ideal) (k0_pay2 (F := Ideal) m) (k0_pay3 x p) (k0_pay4 s) (k0_pay5 s))
      (k0_pay6 (F := Ideal) (k0_pay2 (F := Ideal) m) (k0_pay3 x p) (k0_pay4 s) (k0_pay5 s))) reduces_S1024x1024_S1024 (.inl rfl) rfl
    shapeCasts_S1024_S1024x1 (Ideal.ofBits .f32 0x3A800000#32) r).trans (congrArg (fun u : EReal => u * Ideal.ofBits .f32 0x3A800000#32) e2)
  exact congrArg₂ (fun u v : EReal => (summed m x p s r j - u) * Ideal.rsqrt v * g (ix2 (0 : Fin 1) j) + b (ix2 (0 : Fin 1) j)) m1
    (congrArg₂ (fun u v : EReal => u - v * v + Ideal.ofBits .f32 0x3727C5AC#32) m2 m1)

end Cert.KernelMath

end
-- ==== Proof.Math.Array.lean ====
/- What the kernel's result array holds at one position, in terms of the six arguments. -/
module

public import proofs.«01_k».proof.Proof.Math.Kernel

@[expose] public section

set_option maxRecDepth 16384

noncomputable section

namespace Cert.KernelMath

open Cert.Kernel Cert.Kernel.Gen Cert.Kernel.Run
open Idealize.ShloMosaic Idealize.ShloMosaic.TcCoe Idealize.ShloMosaic.ValueIdx
open Idealize.SL.Sem

/-- The row of the flattened input that a batch entry's position is. -/
def flatRow (a : Fin 4) (q : Fin 4096) : Fin 16384 := ⟨a.val * 4096 + q.val, by omega⟩
/-- Its block and its row within the block. -/
def blk (a : Fin 4) (q : Fin 4096) : Fin 16 := ⟨(a.val * 4096 + q.val) / 1024, by omega⟩
def inBlk (a : Fin 4) (q : Fin 4096) : Fin 1024 := ⟨(a.val * 4096 + q.val) % 1024, by omega⟩

/-- The row's element, from the arrays the kernel reads. -/
def entry (X : S16384x1024.Idx → EReal) (M : S16384x1.Idx → BitVec 8) (P : S4096x1024.Idx → EReal) (S : S2x1024.Idx → EReal)
    (a : Fin 4) (q : Fin 4096) (k : Fin 1024) : EReal :=
  X (ix2 (flatRow a q) k) + P (ix2 q k)
    + Scalar.select (IntOp.cmpi .ne (M (ix2 (flatRow a q) (0 : Fin 1))) 0#8) (S (ix2 (1 : Fin 2) k)) (S (ix2 (0 : Fin 2) k))

section Args
variable {c : Dev nD} (A : Args Ideal c) (a : Fin 4) (q : Fin 4096) (k : Fin 1024)

theorem xIn_at : xIn A (blk a q) (ix3 (0 : Fin 1) (inBlk a q) k) = A.X (ix2 (flatRow a q) k) := by
  refine (shapeCast_ab_1ab_apply _ shapeCasts_S1024x1024_S1x1024x1024 (0 : Fin 1) (inBlk a q) k).trans ?_
  refine congrArg A.X (funext fun d => Fin.ext ?_)
  match d with
  | ⟨0, _⟩ =>
    show (a.val * 4096 + q.val) / 1024 * 1024 + 1 * ((a.val * 4096 + q.val) % 1024) = a.val * 4096 + q.val
    omega
  | ⟨1, _⟩ => show 0 + 1 * k.val = k.val; omega

theorem mIn_at : mIn A (blk a q) (ix2 (inBlk a q) (0 : Fin 1)) = A.M (ix2 (flatRow a q) (0 : Fin 1)) := by
  refine congrArg A.M (funext fun d => Fin.ext ?_)
  match d with
  | ⟨0, _⟩ =>
    show (a.val * 4096 + q.val) / 1024 * 1024 + 1 * ((a.val * 4096 + q.val) % 1024) = a.val * 4096 + q.val
    omega
  | ⟨1, _⟩ => rfl

theorem pIn_at : pIn A (blk a q) (ix2 (inBlk a q) k) = A.P (ix2 q k) := by
  refine congrArg A.P (funext fun d => Fin.ext ?_)
  match d with
  | ⟨0, _⟩ =>
    show (a.val * 4096 + q.val) / 1024 % 4 * 1024 + 1 * ((a.val * 4096 + q.val) % 1024) = q.val
    have := q.isLt
    omega
  | ⟨1, _⟩ => show 0 + 1 * k.val = k.val; omega

theorem summed_at : summed (mIn A (blk a q)) (xIn A (blk a q)) (pIn A (blk a q)) (sIn A) (inBlk a q) k = entry A.X A.M A.P A.S a q k := by
  unfold summed
  rw [xIn_at, mIn_at, pIn_at]
  rfl

theorem resA_at (j : Fin 1024) :
    resA A (ix2 (flatRow a q) j)
      = Norm.kernelElt (entry A.X A.M A.P A.S a q) (Ideal.ofBits .f32 0x3A800000#32) (Ideal.ofBits .f32 0x3727C5AC#32) (entry A.X A.M A.P A.S a q j)
          (A.G (ix2 (0 : Fin 1) j)) (A.B (ix2 (0 : Fin 1) j)) := by
  have h := compute_at (mIn A (blk a q)) (xIn A (blk a q)) (pIn A (blk a q)) (sIn A) (gIn A) (bIn A) (inBlk a q) j
  rw [show summed (mIn A (blk a q)) (xIn A (blk a q)) (pIn A (blk a q)) (sIn A) (inBlk a q) = entry A.X A.M A.P A.S a q from
    funext fun k => summed_at A a q k] at h
  exact h

end Args

variable (m : (ℓ : Loc nD τ sig) → Buf (Elt Ideal) ℓ) (c : Dev nD)

/-- The arguments, as arrays. -/
abbrev argX : S4x4096x1024.Idx → EReal := m ((c : Thread nD τ).loc main_arg0)
abbrev argM : S4x4096.Idx → BitVec 32 := m ((c : Thread nD τ).loc main_arg1)
abbrev argP : S4096x1024.Idx → EReal := m ((c : Thread nD τ).loc main_arg2)
abbrev argS : S2x1024.Idx → EReal := m ((c : Thread nD τ).loc main_arg3)
abbrev argG : S1024.Idx → EReal := m ((c : Thread nD τ).loc main_arg4)
abbrev argB : S1024.Idx → EReal := m ((c : Thread nD τ).loc main_arg5)

theorem args_X : (args m c).X = shapeCast S16384x1024 (argX m c) shapeCasts_S4x4096x1024_S16384x1024 := rfl
theorem args_M : (args m c).M = shapeCast S16384x1 (trunci 8 (argM m c) natLt_8_32) shapeCasts_S4x4096_S16384x1 := rfl
theorem args_P : (args m c).P = argP m c := V_main_arg2 m c
theorem args_S : (args m c).S = argS m c := V_main_arg3 m c
theorem args_G : (args m c).G = shapeCast S1x1024 (argG m c) shapeCasts_S1024_S1x1024 := rfl
theorem args_B : (args m c).B = shapeCast S1x1024 (argB m c) shapeCasts_S1024_S1x1024 := rfl

/-- A row's element, from the arguments: input, positional row, and the segment row the mask entry picks. -/
def row (X : S4x4096x1024.Idx → EReal) (M : S4x4096.Idx → BitVec 32) (P : S4096x1024.Idx → EReal) (S : S2x1024.Idx → EReal)
    (a : Fin 4) (q : Fin 4096) (k : Fin 1024) : EReal :=
  X (ix3 a q k) + P (ix2 q k) + if M (ix2 a q) = 0#32 then S (ix2 (0 : Fin 2) k) else S (ix2 (1 : Fin 2) k)

theorem entry_at (a : Fin 4) (q : Fin 4096) (hM : argM m c (ix2 a q) = 0#32 ∨ argM m c (ix2 a q) = 1#32) (k : Fin 1024) :
    entry (args m c).X (args m c).M (args m c).P (args m c).S a q k = row (argX m c) (argM m c) (argP m c) (argS m c) a q k := by
  unfold entry row
  rw [args_X, args_M, args_P, args_S]
  have hx : shapeCast S16384x1024 (argX m c) shapeCasts_S4x4096x1024_S16384x1024 (ix2 (flatRow a q) k) = argX m c (ix3 a q k) :=
    shapeCast_apply _ _ _ _ (by rw [Shape.rowMajor_val_three, Shape.rowMajor_val_two]; rfl)
  have hm : shapeCast S16384x1 (trunci 8 (argM m c) natLt_8_32) shapeCasts_S4x4096_S16384x1 (ix2 (flatRow a q) (0 : Fin 1))
      = (argM m c (ix2 a q)).setWidth 8 :=
    shapeCast_apply (trunci 8 (argM m c) natLt_8_32) _ _ (ix2 a q) (by
      rw [Shape.rowMajor_val_two, Shape.rowMajor_val_two]
      show a.val * 4096 + q.val = (a.val * 4096 + q.val) * 1 + 0
      omega)
  rw [hx, hm]
  rcases hM with h | h <;> rw [h] <;> rfl

/-- The result at a position. -/
theorem result_at (a : Fin 4) (q : Fin 4096) (hM : argM m c (ix2 a q) = 0#32 ∨ argM m c (ix2 a q) = 1#32) (j : Fin 1024) :
    result m c (ix3 a q j)
      = Norm.kernelElt (row (argX m c) (argM m c) (argP m c) (argS m c) a q) (Ideal.ofBits .f32 0x3A800000#32)
          (Ideal.ofBits .f32 0x3727C5AC#32) (row (argX m c) (argM m c) (argP m c) (argS m c) a q j) (argG m c (ix1 j)) (argB m c (ix1 j)) := by
  have hr : result m c (ix3 a q j) = resA (args m c) (ix2 (flatRow a q) j) :=
    shapeCast_apply (show FVec Ideal S16384x1024 .f32 from resA (args m c)) shapeCasts_S16384x1024_S4x4096x1024 (ix3 a q j) (ix2 (flatRow a q) j)
      (by rw [Shape.rowMajor_val_three, Shape.rowMajor_val_two]; rfl)
  rw [hr, resA_at, args_G, args_B, shapeCast_a_1a_apply, shapeCast_a_1a_apply,
    show entry (args m c).X (args m c).M (args m c).P (args m c).S a q = row (argX m c) (argM m c) (argP m c) (argS m c) a q from funext fun k => entry_at m c a q hM k]

end Cert.KernelMath

end
-- ==== Proof.Math.Reference.lean ====
/- What the reference computes at one position: the row of sums, normalised by its own mean and variance. -/
module

public import proofs.«01_k».proof.Proof.Gen.ReferenceIdeal.Run
public import proofs.«01_k».proof.Proof.Math.Take
public import proofs.«01_k».proof.Proof.Math.Array

@[expose] public section

set_option maxRecDepth 16384

noncomputable section

namespace Cert.RefMath

open Cert.ReferenceIdeal Cert.ReferenceIdeal.Gen
open Idealize.ShloMosaic Idealize.ShloMosaic.TcCoe Idealize.ShloMosaic.ValueIdx
open Idealize.SL.Sem

/-- The input plus the position's row plus the segment's row. -/
def embedded (X : FVec Ideal S4x4096x1024 .f32) (M : IVec S4x4096 32) (P : FVec Ideal S4096x1024 .f32) (S : FVec Ideal S2x1024 .f32) :
    FVec Ideal S4x4096x1024 .f32 :=
  addf (addf X (filled (inRange 4095#32 (wrapped 4096#32 positions))
      (Host.gather gather_S4096x1024_S4x4096x1_S4x4096x1024_2_0_n_n_0_2_11024 P (wrapped 4096#32 positions))))
    (filled (inRange 1#32 (wrapped 2#32 M))
      (Host.gather gather_S2x1024_S4x4096x1_S4x4096x1024_2_0_n_n_0_2_11024 S (wrapped 2#32 M)))

/-- The mean of each row, as a column. -/
def meanCol (h : FVec Ideal S4x4096x1024 .f32) : FVec Ideal S4x4096x1 .f32 :=
  Host.divf (broadcastInDim S4x4096x1 ![0, 1] bcast_S4x4096_S4x4096x1_0_1
      (Host.reduceAdd h (constant S_ .f32 0x00000000#32) reducesTo_S4x4096x1024_S4x4096_d2 h_S_))
    (broadcastInDim S4x4096x1 ![] bcast_S_S4x4096x1 (constant S_ .f32 0x44800000#32))

/-- A column along the rows. -/
def along (v : FVec Ideal S4x4096x1 .f32) : FVec Ideal S4x4096x1024 .f32 :=
  broadcastInDim S4x4096x1024 ![0, 1, 2] bcast_S4x4096x1_S4x4096x1024_0_1_2 v

/-- The rows less their means. -/
def centred (h : FVec Ideal S4x4096x1024 .f32) : FVec Ideal S4x4096x1024 .f32 := subf h (along (meanCol h))

/-- A vector along every row. -/
def everyRow (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)

/-- The normalised rows, scaled and shifted. -/
def normed (h : FVec Ideal S4x4096x1024 .f32) (g b : FVec Ideal S1024 .f32) : FVec Ideal S4x4096x1024 .f32 :=
  addf (mulf (Host.divf (centred h)
      (along (Host.sqrt (addf (meanCol (mulf (centred h) (centred h)))
        (broadcastInDim S4x4096x1 ![] bcast_S_S4x4096x1 (constant S_ .f32 0x3727C5AC#32))))))
    (everyRow g)) (everyRow b)

/-- The reference's result is these steps of its arguments. -/
theorem res_eq (m : (ℓ : Loc nD τ sig) → Buf (Elt Ideal) ℓ) (c : Dev nD) :
    Value.res_main_v30 m c
      = normed (embedded (m ((c.tc : Thread nD τ).loc main_arg0)) (m ((c.tc : Thread nD τ).loc main_arg1))
          (m ((c.tc : Thread nD τ).loc main_arg2)) (m ((c.tc : Thread nD τ).loc main_arg3)))
          (m ((c.tc : Thread nD τ).loc main_arg4)) (m ((c.tc : Thread nD τ).loc main_arg5)) := rfl

theorem row_total (h : FVec Ideal S4x4096x1024 .f32) (a : Fin 4) (q : Fin 4096) :
    Host.reduceAdd h (constant S_ .f32 0x00000000#32) reducesTo_S4x4096x1024_S4x4096_d2 h_S_ (ix2 a q)
      = (0 : EReal) + ∑ k : Fin 1024, h (ix3 a q k) := by
  rw [hostReduceAdd_apply, Ideal.hostReduceAdd_single _ (by decide)]
  refine congrArg₂ (· + ·) Ideal.ofBits_zero_f32 (Finset.sum_congr rfl fun k _ => congrArg h (funext fun d => Fin.ext ?_))
  match d with
  | ⟨0, _⟩ => rfl
  | ⟨1, _⟩ => rfl
  | ⟨2, _⟩ => rfl

theorem meanCol_at (h : FVec Ideal S4x4096x1024 .f32) (a : Fin 4) (q : Fin 4096) (o : Fin 1) :
    meanCol h (ix3 a q o) = Norm.refMean (fun k => h (ix3 a q k)) (Ideal.ofBits .f32 0x44800000#32) := by
  have hb : broadcastInDim S4x4096x1 ![0, 1] bcast_S4x4096_S4x4096x1_0_1
      (Host.reduceAdd h (constant S_ .f32 0x00000000#32) reducesTo_S4x4096x1024_S4x4096_d2 h_S_) (ix3 a q o)
      = (0 : EReal) + ∑ k : Fin 1024, h (ix3 a q k) :=
    (broadcastInDim_apply _ _ _ _ (ix2 a q) (fun d => match d with | ⟨0, _⟩ => rfl | ⟨1, _⟩ => rfl)).trans (row_total h a q)
  exact congrArg (fun u : EReal => Ideal.div u (Ideal.ofBits .f32 0x44800000#32)) hb

theorem along_at (v : FVec Ideal S4x4096x1 .f32) (a : Fin 4) (q : Fin 4096) (k : Fin 1024) :
    along v (ix3 a q k) = v (ix3 a q (0 : Fin 1)) :=
  broadcastInDim_apply _ _ _ _ _ (fun d => match d with | ⟨0, _⟩ => rfl | ⟨1, _⟩ => rfl | ⟨2, _⟩ => rfl)

theorem everyRow_at (g : FVec Ideal S1024 .f32) (a : Fin 4) (q : Fin 4096) (k : Fin 1024) : everyRow g (ix3 a q k) = g (ix1 k) :=
  (broadcastInDim_apply _ _ _ _ (ix3 (0 : Fin 1) (0 : Fin 1) k) (fun d => match d with | ⟨0, _⟩ => rfl | ⟨1, _⟩ => rfl | ⟨2, _⟩ => rfl)).trans
    (broadcastInDim_apply _ _ _ _ (ix1 k) (fun d => match d with | ⟨0, _⟩ => rfl))

theorem centred_at (h : FVec Ideal S4x4096x1024 .f32) (a : Fin 4) (q : Fin 4096) (k : Fin 1024) :
    centred h (ix3 a q k)
      = h (ix3 a q k) - Norm.refMean (fun k => h (ix3 a q k)) (Ideal.ofBits .f32 0x44800000#32) :=
  congrArg (fun u : EReal => h (ix3 a q k) - u) ((along_at _ a q k).trans (meanCol_at h a q 0))

/-- The normalised rows at a position. -/
theorem normed_at (h : FVec Ideal S4x4096x1024 .f32) (g b : FVec Ideal S1024 .f32) (a : Fin 4) (q : Fin 4096) (j : Fin 1024) :
    normed h g b (ix3 a q j)
      = Norm.refElt (fun k => h (ix3 a q k)) (Ideal.ofBits .f32 0x44800000#32) (Ideal.ofBits .f32 0x3727C5AC#32) (h (ix3 a q j))
          (g (ix1 j)) (b (ix1 j)) := by
  have hv := (along_at (Host.sqrt (addf (meanCol (mulf (centred h) (centred h)))
        (broadcastInDim S4x4096x1 ![] bcast_S_S4x4096x1 (constant S_ .f32 0x3727C5AC#32)))) a q j)
  have hm := meanCol_at (mulf (centred h) (centred h)) a q 0
  have hs : (fun k => mulf (centred h) (centred h) (ix3 a q k))
      = fun k => (h (ix3 a q k) - Norm.refMean (fun k => h (ix3 a q k)) (Ideal.ofBits .f32 0x44800000#32))
          * (h (ix3 a q k) - Norm.refMean (fun k => h (ix3 a q k)) (Ideal.ofBits .f32 0x44800000#32)) :=
    funext fun k => congrArg (fun u : EReal => u * u) (centred_at h a q k)
  rw [hs] at hm
  have hd := congrArg (fun u : EReal => Ideal.sqrt (u + Ideal.ofBits .f32 0x3727C5AC#32)) hm
  exact congrArg₂ (fun u v : EReal => u + v)
    (congrArg₂ (fun u v : EReal => u * v)
      (congrArg₂ (fun u v : EReal => Ideal.div u v) (centred_at h a q j) (hv.trans hd)) (everyRow_at g a q j))
    (everyRow_at b a q j)

/-- The row of sums at a position, where the mask names a segment everywhere. -/
theorem embedded_at (X : FVec Ideal S4x4096x1024 .f32) (M : IVec S4x4096 32) (P : FVec Ideal S4096x1024 .f32) (S : FVec Ideal S2x1024 .f32)
    (hM : ∀ y, M y = 0#32 ∨ M y = 1#32) (a : Fin 4) (q : Fin 4096) (k : Fin 1024) :
    embedded X M P S (ix3 a q k) = KernelMath.row X M P S a q k := by
  have hx : ∀ x : S4x4096x1.Idx, ∃ (a : Fin 4) (q : Fin 4096) (o : Fin 1), x = ix3 a q o := fun x => ⟨x 0, x 1, x 2, eq_ix3 x⟩
  have hp : ∀ (a : Fin 4) (q : Fin 4096) (o : Fin 1), wrapped 4096#32 positions (ix3 a q o) = BitVec.ofNat 32 q.val := fun a q o =>
    wrapped_at _ _ a q o q.val q.isLt (positions_at a q)
  have hs : ∀ (a : Fin 4) (q : Fin 4096) (o : Fin 1), ∃ v : Fin 2, wrapped 2#32 M (ix3 a q o) = BitVec.ofNat 32 v.val
      ∧ S (ix2 v k) = if M (ix2 a q) = 0#32 then S (ix2 (0 : Fin 2) k) else S (ix2 (1 : Fin 2) k) := fun a q o => by
    rcases hM (ix2 a q) with h | h
    · exact ⟨0, wrapped_at _ _ a q o 0 (by omega) h, by rw [if_pos h]⟩
    · exact ⟨1, wrapped_at _ _ a q o 1 (by omega) h, by rw [if_neg (by rw [h]; decide)]⟩
  have hpos : filled (inRange 4095#32 (wrapped 4096#32 positions))
      (Host.gather gather_S4096x1024_S4x4096x1_S4x4096x1024_2_0_n_n_0_2_11024 P (wrapped 4096#32 positions)) (ix3 a q k) = P (ix2 q k) :=
    (filled_at _ _ a q k (inRange_at 4095 (by omega) _ (fun x => by
      obtain ⟨a, q, o, rfl⟩ := hx x
      exact ⟨q.val, by omega, hp a q o⟩) _)).trans (gather_positions P _ a q k q (hp a q 0))
  obtain ⟨v, hv, hS⟩ := hs a q 0
  have hseg : filled (inRange 1#32 (wrapped 2#32 M))
      (Host.gather gather_S2x1024_S4x4096x1_S4x4096x1024_2_0_n_n_0_2_11024 S (wrapped 2#32 M)) (ix3 a q k) = S (ix2 v k) :=
    (filled_at _ _ a q k (inRange_at 1 (by omega) _ (fun x => by
      obtain ⟨a, q, o, rfl⟩ := hx x
      obtain ⟨v, hv, _⟩ := hs a q o
      exact ⟨v.val, by omega, hv⟩) _)).trans (gather_segments S _ a q k v hv)
  exact congrArg₂ (fun u w : EReal => X (ix3 a q k) + u + w) hpos (hseg.trans hS)

end Cert.RefMath

end
-- ==== Proof.Math.Pre.lean ====
/- What the precondition says of each argument: the entries the rows are summed from are real numbers, and each mask word
   is zero or one. -/
module

public import proofs.«01_k».proof.Pre_finite_and_two_segments
public import Idealize.ShloMosaic.PureOps.Ideal
public import Idealize.ShloMosaic.PureOps.Ideal.Laws

@[expose] public section

noncomputable section

namespace Cert.PreMath

open Cert.Pre_finite_and_two_segments
open Idealize.ShloMosaic

theorem facts : Cert.Pre_finite_and_two_segments.Facts := ⟨by decide, by decide, by decide, by decide⟩

theorem top_word : Ideal.ofBits .f32 0x7F800000#32 = ⊤ := by simp [Ideal.ofBits, Ideal.ieee]

/-- An extended real whose size is below the top one is a real number. -/
theorem real_of_below (x : EReal) (h : Ideal.cmp .olt (max x (-x)) (Ideal.ofBits .f32 0x7F800000#32) = 1#1) : ∃ r : ℝ, x = (r : EReal) := by
  rw [top_word] at h
  induction x using EReal.rec with
  | bot => simp [Ideal.cmp] at h
  | top => simp [Ideal.cmp] at h
  | coe r => exact ⟨r, rfl⟩

/-- A word equal to zero or to one. -/
theorem zero_or_one (w : BitVec 32) (h : IntOp.ori (IntOp.cmpi .eq w 0#32) (IntOp.cmpi .eq w 1#32) = 1#1) : w = 0#32 ∨ w = 1#32 := by
  by_cases h0 : w = 0#32
  · exact Or.inl h0
  · by_cases h1 : w = 1#32
    · exact Or.inr h1
    · have e0 : IntOp.cmpi .eq w 0#32 = 0#1 := congrArg BitVec.ofBool (beq_eq_false_iff_ne.2 h0)
      have e1 : IntOp.cmpi .eq w 1#32 = 0#1 := congrArg BitVec.ofBool (beq_eq_false_iff_ne.2 h1)
      rw [e0, e1] at h
      exact absurd h (by decide)

variable [Cert.Pre_finite_and_two_segments.Facts]
variable (X : FVec Ideal S4x4096x1024 .f32) (M : IVec S4x4096 32) (P : FVec Ideal S4096x1024 .f32) (S : FVec Ideal S2x1024 .f32)
  (G B : FVec Ideal S1024 .f32)

theorem input_real (h : (fn X M P S G B).1 = fun _ => 1#1) (y : S4x4096x1024.Idx) : ∃ r : ℝ, X y = (r : EReal) :=
  real_of_below _ (congrFun h y)

theorem mask_word (h : (fn X M P S G B).2.1 = fun _ => 1#1) (y : S4x4096.Idx) : M y = 0#32 ∨ M y = 1#32 :=
  zero_or_one _ (congrFun h y)

theorem position_real (h : (fn X M P S G B).2.2.1 = fun _ => 1#1) (y : S4096x1024.Idx) : ∃ r : ℝ, P y = (r : EReal) :=
  real_of_below _ (congrFun h y)

theorem segment_real (h : (fn X M P S G B).2.2.2 = fun _ => 1#1) (y : S2x1024.Idx) : ∃ r : ℝ, S y = (r : EReal) :=
  real_of_below _ (congrFun h y)

end Cert.PreMath

end
-- ==== Proof.Math.Equal.lean ====
/- The two programs' results are one array, under the precondition. -/
module

public import proofs.«01_k».proof.Proof.Math.Reference
public import proofs.«01_k».proof.Proof.Math.Pre

@[expose] public section

set_option maxRecDepth 16384

noncomputable section

namespace Cert.Equal

open Idealize.ShloMosaic Idealize.ShloMosaic.TcCoe Idealize.ShloMosaic.ValueIdx
open Idealize.SL.Sem
open Cert.KernelMath (row argX argM argP argS argG argB)

/-- A row whose summands are real numbers is a row of real numbers. -/
theorem row_real (X : Cert.Kernel.S4x4096x1024.Idx → EReal) (M : Cert.Kernel.S4x4096.Idx → BitVec 32)
    (P : Cert.Kernel.S4096x1024.Idx → EReal) (S : Cert.Kernel.S2x1024.Idx → EReal)
    (hX : ∀ y, ∃ r : ℝ, X y = (r : EReal)) (hP : ∀ y, ∃ r : ℝ, P y = (r : EReal)) (hS : ∀ y, ∃ r : ℝ, S y = (r : EReal))
    (a : Fin 4) (q : Fin 4096) (k : Fin 1024) : ∃ r : ℝ, row X M P S a q k = (r : EReal) := by
  obtain ⟨x, hx⟩ := hX (ix3 a q k)
  obtain ⟨p, hp⟩ := hP (ix2 q k)
  obtain ⟨s, hs⟩ : ∃ r : ℝ, (if M (ix2 a q) = 0#32 then S (ix2 (0 : Fin 2) k) else S (ix2 (1 : Fin 2) k)) = (r : EReal) := by
    split
    · exact hS _
    · exact hS _
  refine ⟨x + p + s, ?_⟩
  unfold row
  rw [hs, hx, hp, EReal.coe_add, EReal.coe_add]

variable (m : (ℓ : Loc Cert.Kernel.nD Cert.Kernel.τ Cert.Kernel.sig) → Buf (Elt Ideal) ℓ) (c : Dev Cert.Kernel.nD)

/-- The normalised rows of the reference are the kernel's result. -/
theorem result_eq (hX : ∀ y, ∃ r : ℝ, argX m c y = (r : EReal)) (hM : ∀ y, argM m c y = 0#32 ∨ argM m c y = 1#32)
    (hP : ∀ y, ∃ r : ℝ, argP m c y = (r : EReal)) (hS : ∀ y, ∃ r : ℝ, argS m c y = (r : EReal)) :
    RefMath.normed (RefMath.embedded (argX m c) (argM m c) (argP m c) (argS m c)) (argG m c) (argB m c)
      = Cert.Kernel.Run.result m c := by
  funext y
  obtain ⟨a, q, j, rfl⟩ : ∃ (a : Fin 4) (q : Fin 4096) (j : Fin 1024), y = ix3 a q j := ⟨y 0, y 1, y 2, eq_ix3 y⟩
  choose f hf using row_real (argX m c) (argM m c) (argP m c) (argS m c) hX hP hS a q
  have he : (fun k => RefMath.embedded (argX m c) (argM m c) (argP m c) (argS m c) (ix3 a q k))
      = row (argX m c) (argM m c) (argP m c) (argS m c) a q :=
    funext fun k => RefMath.embedded_at _ _ _ _ hM a q k
  have hr := RefMath.normed_at (RefMath.embedded (argX m c) (argM m c) (argP m c) (argS m c)) (argG m c) (argB m c) a q j
  rw [he, RefMath.embedded_at _ _ _ _ hM a q j] at hr
  exact hr.trans ((Norm.elt_eq _ f hf j _ _).symm.trans (KernelMath.result_at m c a q (hM _) j).symm)

end Cert.Equal

end
-- ==== Proof.lean ====
module

public import proofs.«01_k».proof.Defs
public import proofs.«01_k».proof.Proof.Gen.KernelIdeal
public import proofs.«01_k».proof.Proof.Run.Launch
public import proofs.«01_k».proof.Proof.Math.Equal

@[expose] public section

noncomputable section

namespace Cert.Proof

open Idealize.ShloMosaic Idealize.SL.Sem

/-- The kernel runs, leaves its arguments unchanged and its counters at zero. -/
theorem frame_kernel : Cert.quiescent_Kernel := fun m g _ =>
  (θ_run Cert.Kernel.defs _ _).mono (fun _ h => ⟨fun c => (h.1 c).2, h.2⟩) (Cert.Kernel.Run.run (F := Bits) m g)

/-- The ideal program has the kernel's own text, so the kernel's run, stated over any floats, is its run. -/
theorem ideal_main : Cert.KernelIdeal.main (F := Ideal) = Cert.Kernel.main (F := Ideal) := rfl

/-- So does the ideal program. -/
theorem frame_ideal : Cert.quiescent_KernelIdeal := fun m g _ =>
  (θ_run Cert.KernelIdeal.defs _ _).mono (fun _ h => ⟨fun c => (h.1 c).2, h.2⟩) (Cert.Kernel.Run.run (F := Ideal) m g)

/-- So does the reference, which has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

section Pre
variable [Cert.Pre_finite_and_two_segments.Facts]

/-- Under the precondition the two results are one array. -/
theorem algebraic : Cert.algebraic_KernelIdeal_ReferenceIdeal_pre_finite_and_two_segments := by
  intro m g m' g' hpre hargs
  refine ⟨fun c => Cert.Kernel.Run.result m c,
    (θ_run Cert.KernelIdeal.defs _ _).mono (fun _ h => h.1) (Cert.Kernel.Run.run (F := Ideal) m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5⟩ := hargs c
  obtain ⟨p0, p1, p2, p3⟩ := hpre c
  refine (RefMath.res_eq m' c).trans ?_
  rw [h0, h1, h2, h3, h4, h5]
  exact Equal.result_eq m c (PreMath.input_real _ _ _ _ _ _ p0) (PreMath.mask_word _ _ _ _ _ _ p1)
    (PreMath.position_real _ _ _ _ _ _ p2) (PreMath.segment_real _ _ _ _ _ _ p3)

end Pre

theorem claim : Cert.Claim :=
  ⟨Cert.Kernel.Gen.facts, Cert.KernelIdeal.Gen.facts, Cert.ReferenceIdeal.Gen.facts, PreMath.facts,
    frame_kernel, frame_ideal, fun m g _ => frame_ideal m g trivial, frame_reference, fun m g _ => frame_reference m g trivial,
    trivial, letI := PreMath.facts; algebraic⟩

end Cert.Proof

end
